-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_inputs_finite [hPre_router_inputs_finite : Cert.Pre_router_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_router_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_inputs_finite [hPre_router_inputs_finite : Cert.Pre_router_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_router_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_router_inputs_finite [hKernelIdeal : Cert.KernelIdeal.Facts] [hPre_router_inputs_finite : Cert.Pre_router_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_router_inputs_finite [hReferenceIdeal : Cert.ReferenceIdeal.Facts] [hPre_router_inputs_finite : Cert.Pre_router_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_router_inputs_finite [hKernelIdeal : Cert.KernelIdeal.Facts] [hReferenceIdeal : Cert.ReferenceIdeal.Facts] [hPre_router_inputs_finite : Cert.Pre_router_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_router_inputs_finite : Cert.Pre_router_inputs_finite.Facts),
    quiescent_Kernel (hKernel := hKernel)
    ∧ quiescent_KernelIdeal (hKernelIdeal := hKernelIdeal)
    ∧ quiescent_KernelIdeal_pre_router_inputs_finite (hKernelIdeal := hKernelIdeal) (hPre_router_inputs_finite := hPre_router_inputs_finite)
    ∧ quiescent_ReferenceIdeal (hReferenceIdeal := hReferenceIdeal)
    ∧ quiescent_ReferenceIdeal_pre_router_inputs_finite (hReferenceIdeal := hReferenceIdeal) (hPre_router_inputs_finite := hPre_router_inputs_finite)
    ∧ preserves_Kernel_KernelIdeal
    ∧ algebraic_KernelIdeal_ReferenceIdeal_pre_router_inputs_finite (hKernelIdeal := hKernelIdeal) (hReferenceIdeal := hReferenceIdeal) (hPre_router_inputs_finite := hPre_router_inputs_finite)
-- ==== Pre_router_inputs_finite.lean ====
abbrev S4x2048x2048 : Shape := ⟨3, ![4, 2048, 2048]⟩
abbrev S2048x2048 : Shape := ⟨2, ![2048, 2048]⟩
abbrev S2048 : Shape := ⟨1, ![2048]⟩
abbrev S4x2048 : Shape := ⟨2, ![4, 2048]⟩
abbrev S4 : Shape := ⟨1, ![4]⟩
abbrev S16x2048 : Shape := ⟨2, ![16, 2048]⟩
abbrev S2048x16 : Shape := ⟨2, ![2048, 16]⟩
abbrev S_ : Shape := ⟨0, ![]⟩

class Facts : Prop where
  bcast_S_S4x2048x2048 : S_.BroadcastsInDim S4x2048x2048 (![] : Fin 0 → Fin S4x2048x2048.rank)
  bcast_S_S4x2048 : S_.BroadcastsInDim S4x2048 (![] : Fin 0 → Fin S4x2048.rank)
  bcast_S_S4 : S_.BroadcastsInDim S4 (![] : Fin 0 → Fin S4.rank)

variable [Facts]

def fn {F : FTy → Type} [FloatOps F] (main_arg0 : FVec F S4x2048x2048 .f32) (main_arg1 : FVec F S2048x2048 .f32) (main_arg2 : FVec F S2048 .f32) (main_arg3 : FVec F S4x2048 .f32) (main_arg4 : FVec F S4 .f32) (main_arg5 : FVec F S4x2048 .f32) (main_arg6 : FVec F S4 .f32) (main_arg7 : FVec F S16x2048 .f32) (main_arg8 : FVec F S2048x16 .f32) (main_arg9 : FVec F S16x2048 .f32) (main_arg10 : FVec F S2048x16 .f32) (main_arg11 : FVec F S16x2048 .f32) (main_arg12 : FVec F S2048x16 .f32) (main_arg13 : FVec F S16x2048 .f32) (main_arg14 : FVec F S2048x16 .f32) : IVec S4x2048x2048 1 × IVec S4x2048 1 × IVec S4 1 × IVec S4x2048 1 × IVec S4 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_v3 : FVec F S4x2048 .f32 := Host.absf main_arg3
  let main_cst_0 : FVec F S_ .f32 := constant S_ .f32 0x7F800000#32
  let main_v4 : FVec F S4x2048 .f32 := broadcastInDim S4x2048 ![] bcast_S_S4x2048 main_cst_0
  let main_v5 : IVec S4x2048 1 := cmpf .olt main_v3 main_v4
  let main_v6 : FVec F S4 .f32 := Host.absf main_arg4
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S4x2048 .f32 := Host.absf main_arg5
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_v12 : FVec F S4 .f32 := Host.absf main_arg6
  let main_cst_3 : FVec F S_ .f32 := constant S_ .f32 0x7F800000#32
  let main_v13 : FVec F S4 .f32 := broadcastInDim S4 ![] bcast_S_S4 main_cst_3
  let main_v14 : IVec S4 1 := cmpf .olt main_v12 main_v13
  (main_v2, main_v5, main_v8, main_v11, main_v14)
-- ==== Kernel.lean ====
abbrev S4x2048x2048 : Shape := ⟨3, ![4, 2048, 2048]⟩
abbrev S2048x2048 : Shape := ⟨2, ![2048, 2048]⟩
abbrev S2048 : Shape := ⟨1, ![2048]⟩
abbrev S4x2048 : Shape := ⟨2, ![4, 2048]⟩
abbrev S4 : Shape := ⟨1, ![4]⟩
abbrev S16x2048 : Shape := ⟨2, ![16, 2048]⟩
abbrev S2048x16 : Shape := ⟨2, ![2048, 16]⟩
abbrev S8192x2048 : Shape := ⟨2, ![8192, 2048]⟩
abbrev S2048x64 : Shape := ⟨2, ![2048, 64]⟩
abbrev S_ : Shape := ⟨0, ![]⟩
abbrev S2048x2176 : Shape := ⟨2, ![2048, 2176]⟩
abbrev S72x2048 : Shape := ⟨2, ![72, 2048]⟩
abbrev S128x2048 : Shape := ⟨2, ![128, 2048]⟩
abbrev S2048x128 : Shape := ⟨2, ![2048, 128]⟩
abbrev S1x2048 : Shape := ⟨2, ![1, 2048]⟩
abbrev S8 : Shape := ⟨1, ![8]⟩
abbrev S1x8 : Shape := ⟨2, ![1, 8]⟩
abbrev S1x128 : Shape := ⟨2, ![1, 128]⟩
abbrev S1024x2048 : Shape := ⟨2, ![1024, 2048]⟩
abbrev S1024x2176 : Shape := ⟨2, ![1024, 2176]⟩
abbrev S1024x128 : Shape := ⟨2, ![1024, 128]⟩
abbrev S1024x64 : Shape := ⟨2, ![1024, 64]⟩
abbrev S1024x8 : Shape := ⟨2, ![1024, 8]⟩
abbrev S1024x1 : Shape := ⟨2, ![1024, 1]⟩
abbrev S1024x4 : Shape := ⟨2, ![1024, 4]⟩
abbrev S1024 : Shape := ⟨1, ![1024]⟩
abbrev S1024x16 : Shape := ⟨2, ![1024, 16]⟩

abbrev nBuf : Space → Nat
  | .hbm => 39
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S4x2048, .f32⟩
  | .hbm, ⟨4, _⟩ => ⟨S4, .f32⟩
  | .hbm, ⟨5, _⟩ => ⟨S4x2048, .f32⟩
  | .hbm, ⟨6, _⟩ => ⟨S4, .f32⟩
  | .hbm, ⟨7, _⟩ => ⟨S16x2048, .f32⟩
  | .hbm, ⟨8, _⟩ => ⟨S2048x16, .f32⟩
  | .hbm, ⟨9, _⟩ => ⟨S16x2048, .f32⟩
  | .hbm, ⟨10, _⟩ => ⟨S2048x16, .f32⟩
  | .hbm, ⟨11, _⟩ => ⟨S16x2048, .f32⟩
  | .hbm, ⟨12, _⟩ => ⟨S2048x16, .f32⟩
  | .hbm, ⟨13, _⟩ => ⟨S16x2048, .f32⟩
  | .hbm, ⟨14, _⟩ => ⟨S2048x16, .f32⟩
  | .hbm, ⟨15, _⟩ => ⟨S8192x2048, .f32⟩
  | .hbm, ⟨16, _⟩ => ⟨S2048x2048, .bf16⟩
  | .hbm, ⟨17, _⟩ => ⟨S2048x64, .f32⟩
  | .hbm, ⟨18, _⟩ => ⟨S_, .f32⟩
  | .hbm, ⟨19, _⟩ => ⟨S2048x64, .f32⟩
  | .hbm, ⟨20, _⟩ => ⟨S2048x64, .f32⟩
  | .hbm, ⟨21, _⟩ => ⟨S2048x64, .bf16⟩
  | .hbm, ⟨22, _⟩ => ⟨S_, .bf16⟩
  | .hbm, ⟨23, _⟩ => ⟨S2048x64, .bf16⟩
  | .hbm, ⟨24, _⟩ => ⟨S2048x2176, .bf16⟩
  | .hbm, ⟨25, _⟩ => ⟨S72x2048, .f32⟩
  | .hbm, ⟨26, _⟩ => ⟨S_, .i32⟩
  | .hbm, ⟨27, _⟩ => ⟨S_, .f32⟩
  | .hbm, ⟨28, _⟩ => ⟨S128x2048, .f32⟩
  | .hbm, ⟨29, _⟩ => ⟨S2048x128, .f32⟩
  | .hbm, ⟨30, _⟩ => ⟨S2048x128, .bf16⟩
  | .hbm, ⟨31, _⟩ => ⟨S1x2048, .f32⟩
  | .hbm, ⟨32, _⟩ => ⟨S8, .f32⟩
  | .hbm, ⟨33, _⟩ => ⟨S1x8, .f32⟩
  | .hbm, ⟨34, _⟩ => ⟨S_, .i32⟩
  | .hbm, ⟨35, _⟩ => ⟨S_, .f32⟩
  | .hbm, ⟨36, _⟩ => ⟨S1x128, .f32⟩
  | .hbm, ⟨37, _⟩ => ⟨S8192x2048, .f32⟩
  | .hbm, ⟨38, _⟩ => ⟨S4x2048x2048, .f32⟩
  | .local _ .vmem, ⟨0, _⟩ => ⟨S1024x2048, .f32⟩
  | .local _ .vmem, ⟨1, _⟩ => ⟨S1024x2048, .f32⟩
  | .local _ .vmem, ⟨2, _⟩ => ⟨S2048x2176, .bf16⟩
  | .local _ .vmem, ⟨3, _⟩ => ⟨S2048x128, .bf16⟩
  | .local _ .vmem, ⟨4, _⟩ => ⟨S1x2048, .f32⟩
  | .local _ .vmem, ⟨5, _⟩ => ⟨S1x128, .f32⟩
  | .local _ .vmem, ⟨6, _⟩ => ⟨S1024x2048, .f32⟩
  | .local _ .vmem, ⟨7, _⟩ => ⟨S1024x2048, .f32⟩
  | .local _ .vmem, ⟨8, _⟩ => ⟨S1024x2176, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_call0_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_1 : Ref sig .tc := ⟨.hbm, 34, rfl⟩
abbrev main_call1_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S4x2048 : Shape := ⟨2, ![4, 2048]⟩
abbrev S4 : Shape := ⟨1, ![4]⟩
abbrev S16x2048 : Shape := ⟨2, ![16, 2048]⟩
abbrev S2048x16 : Shape := ⟨2, ![2048, 16]⟩
abbrev S1x1x2048 : Shape := ⟨3, ![1, 1, 2048]⟩
abbrev S4x32x2048 : Shape := ⟨3, ![4, 32, 2048]⟩
abbrev S4x32x4 : Shape := ⟨3, ![4, 32, 4]⟩
abbrev S1x1x4 : Shape := ⟨3, ![1, 1, 4]⟩
abbrev S4x2016x2048 : Shape := ⟨3, ![4, 2016, 2048]⟩
abbrev S4x2016x4 : Shape := ⟨3, ![4, 2016, 4]⟩
abbrev S_ : Shape := ⟨0, ![]⟩
abbrev S4x32 : Shape := ⟨2, ![4, 32]⟩
abbrev S4x32x1 : Shape := ⟨3, ![4, 32, 1]⟩
abbrev S4x2016 : Shape := ⟨2, ![4, 2016]⟩
abbrev S4x2016x1 : Shape := ⟨3, ![4, 2016, 1]⟩
abbrev S4x2048x4 : Shape := ⟨3, ![4, 2048, 4]⟩
abbrev S4x2048x16 : Shape := ⟨3, ![4, 2048, 16]⟩
abbrev S4x2048x1 : Shape := ⟨3, ![4, 2048, 1]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S4x2048, .f32⟩
  | .hbm, ⟨4, _⟩ => ⟨S4, .f32⟩
  | .hbm, ⟨5, _⟩ => ⟨S4x2048, .f32⟩
  | .hbm, ⟨6, _⟩ => ⟨S4, .f32⟩
  | .hbm, ⟨7, _⟩ => ⟨S16x2048, .f32⟩
  | .hbm, ⟨8, _⟩ => ⟨S2048x16, .f32⟩
  | .hbm, ⟨9, _⟩ => ⟨S16x2048, .f32⟩
  | .hbm, ⟨10, _⟩ => ⟨S2048x16, .f32⟩
  | .hbm, ⟨11, _⟩ => ⟨S16x2048, .f32⟩
  | .hbm, ⟨12, _⟩ => ⟨S2048x16, .f32⟩
  | .hbm, ⟨13, _⟩ => ⟨S16x2048, .f32⟩
  | .hbm, ⟨14, _⟩ => ⟨S2048x16, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x32x2048, .f32⟩
  | .hbm, ⟨20, _⟩ => ⟨S4x32x4, .f32⟩
  | .hbm, ⟨21, _⟩ => ⟨S1x1x4, .f32⟩
  | .hbm, ⟨22, _⟩ => ⟨S4x32x4, .f32⟩
  | .hbm, ⟨23, _⟩ => ⟨S4x32x4, .f32⟩
  | .hbm, ⟨24, _⟩ => ⟨S4x2016x2048, .f32⟩
  | .hbm, ⟨25, _⟩ => ⟨S4x2016x4, .f32⟩
  | .hbm, ⟨26, _⟩ => ⟨S1x1x4, .f32⟩
  | .hbm, ⟨27, _⟩ => ⟨S4x2016x4, .f32⟩
  | .hbm, ⟨28, _⟩ => ⟨S4x2016x4, .f32⟩
  | .hbm, ⟨29, _⟩ => ⟨S_, .f32⟩
  | .hbm, ⟨30, _⟩ => ⟨S4x32, .f32⟩
  | .hbm, ⟨31, _⟩ => ⟨S_, .f32⟩
  | .hbm, ⟨32, _⟩ => ⟨S4x32, .f32⟩
  | .hbm, ⟨33, _⟩ => ⟨S4x32, .f32⟩
  | .hbm, ⟨34, _⟩ => ⟨S4x32x1, .f32⟩
  | .hbm, ⟨35, _⟩ => ⟨S4x32x4, .f32⟩
  | .hbm, ⟨36, _⟩ => ⟨S4x32x4, .f32⟩
  | .hbm, ⟨37, _⟩ => ⟨S4x32x4, .f32⟩
  | .hbm, ⟨38, _⟩ => ⟨S_, .f32⟩
  | .hbm, ⟨39, _⟩ => ⟨S4x32, .f32⟩
  | .hbm, ⟨40, _⟩ => ⟨S4x32x1, .f32⟩
  | .hbm, ⟨41, _⟩ => ⟨S4x32x4, .f32⟩
  | .hbm, ⟨42, _⟩ => ⟨S4x32x4, .f32⟩
  | .hbm, ⟨43, _⟩ => ⟨S_, .f32⟩
  | .hbm, ⟨44, _⟩ => ⟨S4x2016, .f32⟩
  | .hbm, ⟨45, _⟩ => ⟨S_, .f32⟩
  | .hbm, ⟨46, _⟩ => ⟨S4x2016, .f32⟩
  | .hbm, ⟨47, _⟩ => ⟨S4x2016, .f32⟩
  | .hbm, ⟨48, _⟩ => ⟨S4x2016x1, .f32⟩
  | .hbm, ⟨49, _⟩ => ⟨S4x2016x4, .f32⟩
  | .hbm, ⟨50, _⟩ => ⟨S4x2016x4, .f32⟩
  | .hbm, ⟨51, _⟩ => ⟨S4x2016x4, .f32⟩
  | .hbm, ⟨52, _⟩ => ⟨S_, .f32⟩
  | .hbm, ⟨53, _⟩ => ⟨S4x2016, .f32⟩
  | .hbm, ⟨54, _⟩ => ⟨S4x2016x1, .f32⟩
  | .hbm, ⟨55, _⟩ => ⟨S4x2016x4, .f32⟩
  | .hbm, ⟨56, _⟩ => ⟨S4x2016x4, .f32⟩
  | .hbm, ⟨57, _⟩ => ⟨S4x2048x4, .f32⟩
  | .hbm, ⟨58, _⟩ => ⟨S4x2048x16, .f32⟩
  | .hbm, ⟨59, _⟩ => ⟨S4x2048x2048, .f32⟩
  | .hbm, ⟨60, _⟩ => ⟨S_, .f32⟩
  | .hbm, ⟨61, _⟩ => ⟨S4x2048x2048, .f32⟩
  | .hbm, ⟨62, _⟩ => ⟨S4x2048x2048, .f32⟩
  | .hbm, ⟨63, _⟩ => ⟨S4x2048x1, .f32⟩
  | .hbm, ⟨64, _⟩ => ⟨S4x2048x2048, .f32⟩
  | .hbm, ⟨65, _⟩ => ⟨S4x2048x2048, .f32⟩
  | .hbm, ⟨66, _⟩ => ⟨S4x2048x2048, .f32⟩
  | .hbm, ⟨67, _⟩ => ⟨S4x2048x16, .f32⟩
  | .hbm, ⟨68, _⟩ => ⟨S4x2048x2048, .f32⟩
  | .hbm, ⟨69, _⟩ => ⟨S_, .f32⟩
  | .hbm, ⟨70, _⟩ => ⟨S4x2048x2048, .f32⟩
  | .hbm, ⟨71, _⟩ => ⟨S4x2048x2048, .f32⟩
  | .hbm, ⟨72, _⟩ => ⟨S4x2048x1, .f32⟩
  | .hbm, ⟨73, _⟩ => ⟨S4x2048x2048, .f32⟩
  | .hbm, ⟨74, _⟩ => ⟨S4x2048x2048, .f32⟩
  | .hbm, ⟨75, _⟩ => ⟨S4x2048x2048, .f32⟩
  | .hbm, ⟨76, _⟩ => ⟨S4x2048x16, .f32⟩
  | .hbm, ⟨77, _⟩ => ⟨S4x2048x2048, .f32⟩
  | .hbm, ⟨78, _⟩ => ⟨S_, .f32⟩
  | .hbm, ⟨79, _⟩ => ⟨S4x2048x2048, .f32⟩
  | .hbm, ⟨80, _⟩ => ⟨S4x2048x2048, .f32⟩
  | .hbm, ⟨81, _⟩ => ⟨S4x2048x1, .f32⟩
  | .hbm, ⟨82, _⟩ => ⟨S4x2048x2048, .f32⟩
  | .hbm, ⟨83, _⟩ => ⟨S4x2048x2048, .f32⟩
  | .hbm, ⟨84, _⟩ => ⟨S4x2048x2048, .f32⟩
  | .hbm, ⟨85, _⟩ => ⟨S4x2048x16, .f32⟩
  | .hbm, ⟨86, _⟩ => ⟨S4x2048x2048, .f32⟩
  | .hbm, ⟨87, _⟩ => ⟨S_, .f32⟩
  | .hbm, ⟨88, _⟩ => ⟨S4x2048x2048, .f32⟩
  | .hbm, ⟨89, _⟩ => ⟨S4x2048x2048, .f32⟩
  | .hbm, ⟨90, _⟩ => ⟨S4x2048x1, .f32⟩
  | .hbm, ⟨91, _⟩ => ⟨S4x2048x2048, .f32⟩
  | .hbm, ⟨92, _⟩ => ⟨S4x2048x2048, .f32⟩
  | .hbm, ⟨93, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_8 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== Proof.Math.lean ====
/- The mathematics over extended reals behind the value claim: real numbers inside `EReal`, the softmax of four
   real logits and its independence of a common shift, and the distribution of a nonnegative real over a sum. -/
module

public import Idealize.ShloMosaic.PureOps.Ideal
public import Idealize.ShloMosaic.PureOps.Ideal.Laws

@[expose] public section

noncomputable section

namespace Cert.Lora

open Idealize.ShloMosaic

/-- An extended real that is a real number. -/
def IsReal (x : EReal) : Prop := ∃ r : ℝ, x = (r : EReal)

/-- An extended real whose absolute value lies below infinity is a real number. -/
theorem isReal_of_abs_lt {x : EReal} (h : max x (-x) < ⊤) : IsReal x := by
  induction x using EReal.rec with
  | bot => simp at h
  | top => simp at h
  | coe r => exact ⟨r, rfl⟩

/-- A sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The greater of two real numbers is a real number. -/
theorem IsReal.max {x y : EReal} (hx : IsReal x) (hy : IsReal y) : IsReal (max x y) := by
  rcases max_choice x y with h | h <;> rw [h] <;> assumption

/-- The inclusion of the reals commutes with finite sums. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of real numbers is a real number. -/
theorem isReal_sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

/-- The softmax of four logits, without a shift: each exponential over the sum of the four. -/
def soft (l : Fin 4 → EReal) (j : Fin 4) : EReal := Ideal.div (Ideal.exp (l j)) (∑ k, Ideal.exp (l k))

/-- The softmax of four logits after subtracting a common number `M` from each. -/
def softShift (M : EReal) (l : Fin 4 → EReal) (j : Fin 4) : EReal :=
  Ideal.div (Ideal.exp (l j - M)) (∑ k, Ideal.exp (l k - M))

/-- The softmax of real logits is the quotient of real exponentials. -/
theorem soft_coe (l : Fin 4 → ℝ) (j : Fin 4) :
    soft (fun k => (l k : EReal)) j = ((Real.exp (l j) / ∑ k, Real.exp (l k) : ℝ) : EReal) := by
  have hpos : 0 < ∑ k, Real.exp (l k) := Finset.sum_pos (fun k _ => Real.exp_pos _) ⟨0, Finset.mem_univ _⟩
  unfold soft
  simp only [Ideal.exp_coe]
  rw [coe_sum, Ideal.div_coe hpos.ne', ← EReal.coe_mul, one_div, div_eq_mul_inv]

/-- The softmax of real logits is a nonnegative real number. -/
theorem soft_nonneg (l : Fin 4 → EReal) (hl : ∀ k, IsReal (l k)) (j : Fin 4) :
    ∃ g : ℝ, 0 ≤ g ∧ soft l j = (g : EReal) := by
  choose f hf using hl
  obtain rfl : l = fun k => ((f k : ℝ) : EReal) := funext hf
  exact ⟨_, div_nonneg (Real.exp_pos _).le (Finset.sum_nonneg fun k _ => (Real.exp_pos _).le), soft_coe f j⟩

/-- The softmax of real logits does not change when a common real number is subtracted from all of them. -/
theorem softShift_eq (M : EReal) (l : Fin 4 → EReal) (hM : IsReal M) (hl : ∀ k, IsReal (l k)) (j : Fin 4) :
    softShift M l j = soft l j := by
  obtain ⟨μ, rfl⟩ := hM
  choose f hf using hl
  obtain rfl : l = fun k => ((f k : ℝ) : EReal) := funext hf
  have h : softShift (μ : EReal) (fun k => ((f k : ℝ) : EReal)) j = soft (fun k => ((f k - μ : ℝ) : EReal)) j := by
    unfold softShift soft
    simp only [EReal.coe_sub]
  rw [h, soft_coe, soft_coe]
  congr 1
  simp only [Real.exp_sub]
  rw [← Finset.sum_div, div_div_div_cancel_right₀ (Real.exp_pos μ).ne']

/-- The greatest of four real numbers, taken from minus infinity upwards, is a real number. -/
theorem isReal_fold_max (l : Fin 4 → EReal) (hl : ∀ k, IsReal (l k)) :
    IsReal (Finset.univ.fold max ⊥ l) := by
  have h : Finset.univ.fold max ⊥ l = max (l 0) (max (l 1) (max (l 2) (l 3))) := by
    rw [show (Finset.univ : Finset (Fin 4)) = {0, 1, 2, 3} by decide]
    rw [Finset.fold_insert (by decide), Finset.fold_insert (by decide), Finset.fold_insert (by decide),
      Finset.fold_singleton, max_bot_right]
  rw [h]
  exact (hl 0).max ((hl 1).max ((hl 2).max (hl 3)))

/-- A nonnegative real number distributes over any finite sum of extended reals. -/
theorem nonneg_mul_sum {ι : Type} (g : ℝ) (hg : 0 ≤ g) (s : Finset ι) (f : ι → EReal) :
    (g : EReal) * ∑ i ∈ s, f i = ∑ i ∈ s, (g : EReal) * f i := by
  classical
  induction s using Finset.induction_on with
  | empty => simp
  | insert a s ha ih =>
    rw [Finset.sum_insert ha, Finset.sum_insert ha,
      EReal.left_distrib_of_nonneg_of_ne_top (EReal.coe_nonneg.2 hg) (EReal.coe_ne_top g), ih]

/-- One expert's share: a nonnegative real gate and a nonnegative real scale may be taken into the sum over the rank,
    the gate to the first factor and the scale to the second. -/
theorem expert_sum {n : ℕ} (g c : ℝ) (hg : 0 ≤ g) (hc : 0 ≤ c) (h b : Fin n → EReal) :
    ∑ r, ((g : EReal) * h r) * (b r * (c : EReal)) = (g : EReal) * ((∑ r, h r * b r) * (c : EReal)) := by
  rw [mul_comm (∑ r, h r * b r) (c : EReal), nonneg_mul_sum c hc, nonneg_mul_sum g hg]
  refine Finset.sum_congr rfl fun r _ => ?_
  rw [mul_assoc, mul_comm (b r), ← mul_assoc (h r), mul_comm (h r) (c : EReal), mul_assoc (c : EReal)]

end Cert.Lora

end
-- ==== Proof.Spec.lean ====
/- What one row of the result is, written over extended reals: the linear layer with its bias, and four low-rank
   experts weighted by the softmax of the row's router logits. Both programs are shown to compute it. -/
module

public import proofs.«01_k».proof.Proof.Math
public import Idealize.ShloMosaic.Lib.Pointwise

@[expose] public section

noncomputable section

namespace Cert.Lora

open Idealize.ShloMosaic

/-- A matrix of extended reals. -/
abbrev Mat (a b : ℕ) : Type := (⟨2, ![a, b]⟩ : Shape).Idx → EReal

/-- A vector of extended reals. -/
abbrev Vc (a : ℕ) : Type := (⟨1, ![a]⟩ : Shape).Idx → EReal

/-- The product of a row with row `r` of a matrix. -/
def dotRow {n : ℕ} (xr : Fin 2048 → EReal) (A : Mat n 2048) (r : Fin n) : EReal := ∑ k, xr k * A (ix2 r k)

/-- The four logits of a row: of the image router when `img`, of the text router otherwise. -/
def logits (img : Prop) [Decidable img] (xr : Fin 2048 → EReal) (Wri : Mat 4 2048) (bri : Vc 4) (Wrt : Mat 4 2048)
    (brt : Vc 4) (j : Fin 4) : EReal :=
  if img then dotRow xr Wri j + bri (ix1 j) else dotRow xr Wrt j + brt (ix1 j)

/-- One expert's weighted contribution to element `o` of a row: gate times scaled low-rank product. -/
def expert (g : EReal) (xr : Fin 2048 → EReal) (A : Mat 16 2048) (B : Mat 2048 16) (o : Fin 2048) : EReal :=
  g * ((∑ r, dotRow xr A r * B (ix2 o r)) * ((2 : ℝ) : EReal))

/-- Element `o` of a row of the result, the logits `l` given. -/
def rowSpec (l : Fin 4 → EReal) (xr : Fin 2048 → EReal) (W : Mat 2048 2048) (b : Vc 2048)
    (A1 : Mat 16 2048) (B1 : Mat 2048 16) (A2 : Mat 16 2048) (B2 : Mat 2048 16)
    (A3 : Mat 16 2048) (B3 : Mat 2048 16) (A4 : Mat 16 2048) (B4 : Mat 2048 16) (o : Fin 2048) : EReal :=
  dotRow xr W o + b (ix1 o) + expert (soft l 0) xr A1 B1 o + expert (soft l 1) xr A2 B2 o
    + expert (soft l 2) xr A3 B3 o + expert (soft l 3) xr A4 B4 o

/-- The product of two rows of real numbers is a real number. -/
theorem isReal_dotRow {n : ℕ} (xr : Fin 2048 → EReal) (A : Mat n 2048) (r : Fin n)
    (hx : ∀ k, IsReal (xr k)) (hA : ∀ i, IsReal (A i)) : IsReal (dotRow xr A r) :=
  isReal_sum _ _ fun k => (hx k).mul (hA _)

/-- The logits of a row are real numbers when the row and both routers are. -/
theorem isReal_logits (img : Prop) [Decidable img] (xr : Fin 2048 → EReal) (Wri : Mat 4 2048) (bri : Vc 4)
    (Wrt : Mat 4 2048) (brt : Vc 4) (hx : ∀ k, IsReal (xr k)) (h3 : ∀ i, IsReal (Wri i)) (h4 : ∀ i, IsReal (bri i))
    (h5 : ∀ i, IsReal (Wrt i)) (h6 : ∀ i, IsReal (brt i)) (j : Fin 4) : IsReal (logits img xr Wri bri Wrt brt j) := by
  unfold logits
  split
  · exact (isReal_dotRow xr Wri j hx h3).add (h4 _)
  · exact (isReal_dotRow xr Wrt j hx h5).add (h6 _)

/-- The word `0x40000000` is the real number two. -/
theorem two_bits : Ideal.ofBits .f32 0x40000000#32 = ((2 : ℝ) : EReal) := by
  simp [Ideal.ofBits, Ideal.ieee]
  rw [← EReal.coe_mul]
  norm_num

/-- The word `0xFF800000` is minus infinity. -/
theorem neg_inf_bits : Ideal.ofBits .f32 0xFF800000#32 = (⊥ : EReal) := by
  simp [Ideal.ofBits, Ideal.ieee]

/-- The word `0x7F800000` is infinity. -/
theorem inf_bits : Ideal.ofBits .f32 0x7F800000#32 = (⊤ : EReal) := by
  simp [Ideal.ofBits, Ideal.ieee]

end Cert.Lora

end
-- ==== Proof.Ref.lean ====
/- The reference, read at an element of its result: where the routers' inputs are real numbers, each row is
   `rowSpec` of that row of `x`. -/
module

public import proofs.«01_k».proof.Proof.Gen.ReferenceIdeal.Read
public import proofs.«01_k».proof.Proof.Spec

@[expose] public section

set_option maxRecDepth 16384

noncomputable section

namespace Cert.Lora

open Idealize.ShloMosaic Cert.ReferenceIdeal Cert.ReferenceIdeal.Gen Cert.ReferenceIdeal.Read

/-- The activations: batch, position, feature. -/
abbrev Act : Type := (⟨3, ![4, 2048, 2048]⟩ : Shape).Idx → EReal

/-- The reference's softmax of a row of four real logits, which subtracts their maximum first, is the plain one. -/
theorem softmax_row (l : Fin 4 → EReal) (hl : ∀ k, IsReal (l k)) (j : Fin 4) :
    softShift (max (Ideal.ofBits .f32 0xFF800000#32) (Finset.univ.fold max (Ideal.ofBits .f32 0xFF800000#32) l)) l j
      = soft l j := by
  rw [neg_inf_bits, max_bot_left]
  exact softShift_eq _ l (isReal_fold_max l hl) hl j

/-- The linear layer of the reference. -/
theorem ref_base (x0 : Act) (x1 : Mat 2048 2048) (x2 : Vc 2048) (b : Fin 4) (s o : Fin 2048) :
    val_main_v3 (F := Ideal) x0 x1 x2 (ix3 b s o) = dotRow (fun k => x0 (ix3 b s k)) x1 o + x2 (ix1 o) := by
  pointwise [val_main_v3, val_main_v0, val_main_v2, val_main_v1]
  rfl

/-- The gates of the first 32 positions come from the image router. -/
theorem ref_img (x0 : Act) (x3 : Mat 4 2048) (x4 : Vc 4) (h0 : ∀ i, IsReal (x0 i)) (h3 : ∀ i, IsReal (x3 i))
    (h4 : ∀ i, IsReal (x4 i)) (b : Fin 4) (s : Fin 32) (j : Fin 4) :
    val_main_v24 (F := Ideal) x0 x3 x4 (ix3 b s j)
      = soft (fun j => dotRow (fun k => x0 (ix3 b ⟨s.val, by omega⟩ k)) x3 j + x4 (ix1 j)) j := by
  refine Eq.trans ?_ (softmax_row _ (fun j => (isReal_dotRow _ _ _ (fun k => h0 _) h3).add (h4 _)) j)
  pointwise [val_main_v24, val_main_v23, val_main_v22, val_main_v21, val_main_v20, val_main_v19, val_main_v18,
    val_main_v17, val_main_v16, val_main_v15, val_main_v14, val_main_v8, val_main_v7, val_main_v6, val_main_v5,
    val_main_v4, val_main_cst, val_main_cst_0, val_main_cst_1]
  rfl

/-- The gates of the other positions come from the text router. -/
theorem ref_txt (x0 : Act) (x5 : Mat 4 2048) (x6 : Vc 4) (h0 : ∀ i, IsReal (x0 i)) (h5 : ∀ i, IsReal (x5 i))
    (h6 : ∀ i, IsReal (x6 i)) (b : Fin 4) (s : Fin 2016) (j : Fin 4) :
    val_main_v35 (F := Ideal) x0 x5 x6 (ix3 b s j)
      = soft (fun j => dotRow (fun k => x0 (ix3 b ⟨32 + s.val, by omega⟩ k)) x5 j + x6 (ix1 j)) j := by
  refine Eq.trans ?_ (softmax_row _ (fun j => (isReal_dotRow _ _ _ (fun k => h0 _) h5).add (h6 _)) j)
  pointwise [val_main_v35, val_main_v34, val_main_v33, val_main_v32, val_main_v31, val_main_v30, val_main_v29,
    val_main_v28, val_main_v27, val_main_v26, val_main_v25, val_main_v13, val_main_v12, val_main_v11, val_main_v10,
    val_main_v9, val_main_cst_2, val_main_cst_3, val_main_cst_4]
  rfl

/-- The gates of a row of the reference are the softmax of that row's logits. -/
theorem ref_gate (x0 : Act) (x3 : Mat 4 2048) (x4 : Vc 4) (x5 : Mat 4 2048) (x6 : Vc 4)
    (h0 : ∀ i, IsReal (x0 i)) (h3 : ∀ i, IsReal (x3 i)) (h4 : ∀ i, IsReal (x4 i)) (h5 : ∀ i, IsReal (x5 i))
    (h6 : ∀ i, IsReal (x6 i)) (b : Fin 4) (s : Fin 2048) (j : Fin 4) :
    val_main_v36 (F := Ideal) x0 x3 x4 x5 x6 (ix3 b s j)
      = soft (logits (s.val < 32) (fun k => x0 (ix3 b s k)) x3 x4 x5 x6) j := by
  pointwise [val_main_v36, Cert.ReferenceIdeal.Value.fn_main_v36]
  split
  · rename_i h
    rw [ref_img x0 x3 x4 h0 h3 h4]
    congr 1
    funext q
    exact (if_pos h).symm
  · rename_i h
    rw [ref_txt x0 x5 x6 h0 h5 h6]
    congr 1
    funext q
    refine Eq.trans ?_ (if_neg h).symm
    have hs : (⟨32 + (s.val - 32), by omega⟩ : Fin 2048) = s := Fin.ext (by show 32 + (s.val - 32) = s.val; omega)
    show dotRow (fun k => x0 (ix3 b (⟨32 + (s.val - 32), by omega⟩ : Fin 2048) k)) x5 q + x6 (ix1 q) = _
    rw [hs]

/-- Every row of the reference's result is `rowSpec` of that row of `x`. -/
theorem ref_row (x0 : Act) (x1 : Mat 2048 2048) (x2 : Vc 2048) (x3 : Mat 4 2048) (x4 : Vc 4) (x5 : Mat 4 2048)
    (x6 : Vc 4) (x7 : Mat 16 2048) (x8 : Mat 2048 16) (x9 : Mat 16 2048) (x10 : Mat 2048 16) (x11 : Mat 16 2048)
    (x12 : Mat 2048 16) (x13 : Mat 16 2048) (x14 : Mat 2048 16)
    (h0 : ∀ i, IsReal (x0 i)) (h3 : ∀ i, IsReal (x3 i)) (h4 : ∀ i, IsReal (x4 i)) (h5 : ∀ i, IsReal (x5 i))
    (h6 : ∀ i, IsReal (x6 i)) (b : Fin 4) (s o : Fin 2048) :
    val_main_v68 (F := Ideal) x0 x1 x2 x3 x4 x5 x6 x7 x8 x9 x10 x11 x12 x13 x14 (ix3 b s o)
      = rowSpec (logits (s.val < 32) (fun k => x0 (ix3 b s k)) x3 x4 x5 x6) (fun k => x0 (ix3 b s k))
          x1 x2 x7 x8 x9 x10 x11 x12 x13 x14 o := by
  pointwise [val_main_v37, val_main_v38, val_main_v39, val_main_v40, val_main_v41, val_main_v42, val_main_v43,
    val_main_v44, val_main_v45, val_main_v46, val_main_v47, val_main_v48, val_main_v49, val_main_v50, val_main_v51,
    val_main_v52, val_main_v53, val_main_v54, val_main_v55, val_main_v56, val_main_v57, val_main_v58, val_main_v59,
    val_main_v60, val_main_v61, val_main_v62, val_main_v63, val_main_v64, val_main_v65, val_main_v66, val_main_v67,
    val_main_v68, val_main_cst_5, val_main_cst_6, val_main_cst_7, val_main_cst_8]
  rw [ref_base, ref_gate x0 x3 x4 x5 x6 h0 h3 h4 h5 h6, ref_gate x0 x3 x4 x5 x6 h0 h3 h4 h5 h6,
    ref_gate x0 x3 x4 x5 x6 h0 h3 h4 h5 h6, ref_gate x0 x3 x4 x5 x6 h0 h3 h4 h5 h6, two_bits]
  rfl

end Cert.Lora

end
-- ==== Proof.Row.lean ====
/- One row of the kernel's widened product, over extended reals: when the left row holds the features followed by the
   gated low-rank projections, and the right row the weights followed by the doubled up-projections, the sum of the
   products plus the bias is `rowSpec`. -/
module

public import proofs.«01_k».proof.Proof.Spec
public import Idealize.ShloMosaic.Lib.Pointwise

@[expose] public section

noncomputable section

namespace Cert.Lora

open Idealize.ShloMosaic

/-- A sum over the 2176 columns of the widened product: the 2048 features, four groups of 16 ranks and 64 columns of
    padding. -/
theorem sum_cols (f : Fin 2176 → EReal) :
    ∑ k, f k = (∑ k : Fin 2048, f ⟨k.val, by omega⟩)
      + ((∑ r : Fin 16, f ⟨2048 + r.val, by omega⟩) + ((∑ r : Fin 16, f ⟨2064 + r.val, by omega⟩)
        + ((∑ r : Fin 16, f ⟨2080 + r.val, by omega⟩) + ((∑ r : Fin 16, f ⟨2096 + r.val, by omega⟩)
          + ∑ r : Fin 64, f ⟨2112 + r.val, by omega⟩)))) := by
  rw [Fin.sum_univ_two_halves 2048 128 rfl f, Fin.sum_univ_two_halves 16 112 rfl (fun j : Fin 128 => f _),
    Fin.sum_univ_two_halves 16 96 rfl (fun j : Fin 112 => f _), Fin.sum_univ_two_halves 16 80 rfl (fun j : Fin 96 => f _),
    Fin.sum_univ_two_halves 16 64 rfl (fun j : Fin 80 => f _)]
  simp only [← add_assoc, Nat.reduceAdd]

/-- One group of 16 columns adds one expert's contribution. -/
theorem group_eq (l : Fin 4 → EReal) (hl : ∀ k, IsReal (l k)) (e : Fin 4) (xr : Fin 2048 → EReal) (A : Mat 16 2048)
    (B : Mat 2048 16) (o : Fin 2048) (u v : Fin 16 → EReal) (hu : ∀ r, u r = soft l e * dotRow xr A r)
    (hv : ∀ r, v r = B (ix2 o r) * ((2 : ℝ) : EReal)) :
    ∑ r, u r * v r = expert (soft l e) xr A B o := by
  obtain ⟨g, hg, he⟩ := soft_nonneg l hl e
  simp only [hu, hv, he]
  exact expert_sum g 2 hg (by norm_num) _ _

/-- The widened product of one row plus the bias is `rowSpec`. -/
theorem row_eq (L R : Fin 2176 → EReal) (l : Fin 4 → EReal) (hl : ∀ k, IsReal (l k)) (xr : Fin 2048 → EReal)
    (W : Mat 2048 2048) (b : Vc 2048) (A1 : Mat 16 2048) (B1 : Mat 2048 16) (A2 : Mat 16 2048) (B2 : Mat 2048 16)
    (A3 : Mat 16 2048) (B3 : Mat 2048 16) (A4 : Mat 16 2048) (B4 : Mat 2048 16) (o : Fin 2048)
    (hL : ∀ k : Fin 2048, L ⟨k.val, by omega⟩ = xr k)
    (hL1 : ∀ r : Fin 16, L ⟨2048 + r.val, by omega⟩ = soft l 0 * dotRow xr A1 r)
    (hL2 : ∀ r : Fin 16, L ⟨2064 + r.val, by omega⟩ = soft l 1 * dotRow xr A2 r)
    (hL3 : ∀ r : Fin 16, L ⟨2080 + r.val, by omega⟩ = soft l 2 * dotRow xr A3 r)
    (hL4 : ∀ r : Fin 16, L ⟨2096 + r.val, by omega⟩ = soft l 3 * dotRow xr A4 r)
    (hR : ∀ k : Fin 2048, R ⟨k.val, by omega⟩ = W (ix2 o k))
    (hR1 : ∀ r : Fin 16, R ⟨2048 + r.val, by omega⟩ = B1 (ix2 o r) * ((2 : ℝ) : EReal))
    (hR2 : ∀ r : Fin 16, R ⟨2064 + r.val, by omega⟩ = B2 (ix2 o r) * ((2 : ℝ) : EReal))
    (hR3 : ∀ r : Fin 16, R ⟨2080 + r.val, by omega⟩ = B3 (ix2 o r) * ((2 : ℝ) : EReal))
    (hR4 : ∀ r : Fin 16, R ⟨2096 + r.val, by omega⟩ = B4 (ix2 o r) * ((2 : ℝ) : EReal))
    (hZ : ∀ r : Fin 64, R ⟨2112 + r.val, by omega⟩ = 0) :
    (∑ k, L k * R k) + b (ix1 o) = rowSpec l xr W b A1 B1 A2 B2 A3 B3 A4 B4 o := by
  rw [sum_cols fun k => L k * R k, group_eq l hl 0 xr A1 B1 o _ _ hL1 hR1, group_eq l hl 1 xr A2 B2 o _ _ hL2 hR2,
    group_eq l hl 2 xr A3 B3 o _ _ hL3 hR3, group_eq l hl 3 xr A4 B4 o _ _ hL4 hR4]
  simp only [hL, hR, hZ, mul_zero, Finset.sum_const_zero, add_zero]
  unfold rowSpec dotRow
  ac_rfl

end Cert.Lora

end
-- ==== Proof.Block.lean ====
/- The kernel's body on one tile, read at an element: the routing test, the side product, the widened left operand
   and the tile of the result. -/
module

public import proofs.«01_k».proof.Proof.Gen.KernelIdeal.Frame
public import proofs.«01_k».proof.Proof.Row
public import Idealize.ShloMosaic.Lib.Pipeline.ValueKit
public import Idealize.ShloMosaic.Lib.Pipeline.ReadBack

@[expose] public section

set_option maxRecDepth 16384

noncomputable section

namespace Cert.Lora

open Idealize.ShloMosaic Idealize.SL.Sem Cert.KernelIdeal Cert.KernelIdeal.Gen

/-- The routing test on one word, as the kernel computes it from the tile's number `t` and the row `i` in the tile. -/
def routeBit (t i : ℕ) : BitVec 1 :=
  let n : BitVec 32 := IntOp.addi (BitVec.ofNat 32 i) (Scalar.muli (BitVec.ofNat 32 t) 1024#32)
  let d : BitVec 32 := Scalar.select (Scalar.cmpi CmpIPredicate.eq 2048#32 0#32) 1#32 2048#32
  let r : BitVec 32 := IntOp.remsi ArithUnit.vector n d
  IntOp.cmpi CmpIPredicate.slt
    (Scalar.select
      (IntOp.andi (IntOp.xori (IntOp.cmpi CmpIPredicate.slt r 0#32) (Scalar.cmpi CmpIPredicate.slt d 0#32))
        (IntOp.cmpi CmpIPredicate.ne r 0#32))
      (IntOp.addi r d) r)
    32#32

/-- The routing test holds exactly on the first 32 positions of each batch, of 2048 positions. -/
theorem routeBit_eq : ∀ (t : Fin 8) (i : Fin 1024),
    routeBit t.val i.val = if (t.val * 1024 + i.val) % 2048 < 32 then 1#1 else 0#1 := by
  decide +kernel

/-- The kernel's routing mask is the routing test of the row. -/
theorem pay10_eq (p : grid0.Coords) (i : Fin 1024) (j : Fin 4) :
    k0_pay10 p (ix2 i j) = routeBit (p 0).val i.val := by
  pointwise [k0_pay10]
  rfl

variable (xb : FVec Ideal S1024x2048 .f32) (side : FVec Ideal S2048x128 .bf16) (sb : FVec Ideal S1x128 .f32)

/-- Element `(i, j)` of the side product with its bias. -/
def sideAt (i : Fin 1024) (j : Fin 128) : EReal := (∑ x, xb (ix2 i x) * side (ix2 x j) : EReal) + sb (ix2 0 j)

/-- The logits that the routing test of a row selects from the side product. -/
def tileLogits (t : Fin 8) (i : Fin 1024) (q : Fin 4) : EReal :=
  if (t.val * 1024 + i.val) % 2048 < 32 then sideAt xb side sb i ⟨64 + q.val, by omega⟩
  else sideAt xb side sb i ⟨68 + q.val, by omega⟩

/-- The projections are the first 64 columns of the side product. -/
theorem pay6_eq (i : Fin 1024) (j : Fin 64) :
    k0_pay6 (F := Ideal) xb side sb (ix2 i j) = sideAt xb side sb i ⟨j.val, by omega⟩ := by
  pointwise [k0_pay6, k0_pay5, k0_pay3]
  rfl

/-- The image logits are its columns from 64. -/
theorem pay8_eq (i : Fin 1024) (j : Fin 4) :
    k0_pay8 (F := Ideal) xb side sb (ix2 i j) = sideAt xb side sb i ⟨64 + j.val, by omega⟩ := by
  pointwise [k0_pay8, k0_pay5, k0_pay7, k0_pay3]
  rfl

/-- The text logits are its columns from 68. -/
theorem pay9_eq (i : Fin 1024) (j : Fin 4) :
    k0_pay9 (F := Ideal) xb side sb (ix2 i j) = sideAt xb side sb i ⟨68 + j.val, by omega⟩ := by
  have h : (⟨68 + j.val, by omega⟩ : Fin 128) = ⟨64 + (4 + j.val), by omega⟩ :=
    Fin.ext (by show 68 + j.val = 64 + (4 + j.val); omega)
  rw [h]
  pointwise [k0_pay9, k0_pay5, k0_pay7, k0_pay3]
  rfl

/-- The logits that the kernel selects by its mask are the logits of the row's routing test. -/
theorem select_eq (p : grid0.Coords) (i : Fin 1024) (q : Fin 4) :
    Scalar.select (k0_pay10 p (ix2 i q)) (k0_pay8 (F := Ideal) xb side sb (ix2 i q))
        (k0_pay9 (F := Ideal) xb side sb (ix2 i q))
      = tileLogits xb side sb (p 0) i q := by
  rw [pay10_eq, pay8_eq, pay9_eq, routeBit_eq (p 0) i]
  unfold Scalar.select tileLogits
  split <;> simp

/-- The logits that a mask selects from two arrays. -/
def sel (b c : FVec Ideal S1024x4 .f32) (d : IVec S1024x4 1) (i : Fin 1024) (q : Fin 4) : EReal :=
  Scalar.select (d (ix2 i q)) (b (ix2 i q)) (c (ix2 i q))

/-- The stored array's first group of 16 columns: the first gate times the first projection. -/
theorem pay1_1 (a : FVec Ideal S1024x64 .f32) (b c : FVec Ideal S1024x4 .f32) (d : IVec S1024x4 1) (i : Fin 1024)
    (r : Fin 16) :
    k0_pay1 (F := Ideal) a b c d (ix2 i ⟨r.val, by omega⟩)
      = soft (sel b c d i) 0 * a (ix2 i ⟨r.val, by omega⟩) := by
  pointwise [k0_pay1]
  rfl

/-- The stored array's second group of 16 columns: the second gate times the second projection. -/
theorem pay1_2 (a : FVec Ideal S1024x64 .f32) (b c : FVec Ideal S1024x4 .f32) (d : IVec S1024x4 1) (i : Fin 1024)
    (r : Fin 16) :
    k0_pay1 (F := Ideal) a b c d (ix2 i ⟨16 + r.val, by omega⟩)
      = soft (sel b c d i) 1 * a (ix2 i ⟨16 + r.val, by omega⟩) := by
  pointwise [k0_pay1]
  rfl

/-- The stored array's third group of 16 columns: the third gate times the third projection. -/
theorem pay1_3 (a : FVec Ideal S1024x64 .f32) (b c : FVec Ideal S1024x4 .f32) (d : IVec S1024x4 1) (i : Fin 1024)
    (r : Fin 16) :
    k0_pay1 (F := Ideal) a b c d (ix2 i ⟨32 + r.val, by omega⟩)
      = soft (sel b c d i) 2 * a (ix2 i ⟨32 + r.val, by omega⟩) := by
  pointwise [k0_pay1]
  rw [dif_neg (by omega : ¬ 32 + r.val < 16), dif_neg (by omega : ¬ 32 + r.val - 16 < 16), dif_pos (by omega : 32 + r.val - 16 - 16 < 16)]
  have h : (⟨32 + (32 + r.val - 16 - 16), by omega⟩ : Fin 64) = ⟨32 + r.val, by omega⟩ :=
    Fin.ext (by show 32 + (32 + r.val - 16 - 16) = 32 + r.val; omega)
  show soft (sel b c d i) 2 * a (ix2 i ⟨32 + (32 + r.val - 16 - 16), by omega⟩) = _
  rw [h]

/-- The stored array's fourth group of 16 columns: the fourth gate times the fourth projection. -/
theorem pay1_4 (a : FVec Ideal S1024x64 .f32) (b c : FVec Ideal S1024x4 .f32) (d : IVec S1024x4 1) (i : Fin 1024)
    (r : Fin 16) :
    k0_pay1 (F := Ideal) a b c d (ix2 i ⟨48 + r.val, by omega⟩)
      = soft (sel b c d i) 3 * a (ix2 i ⟨48 + r.val, by omega⟩) := by
  pointwise [k0_pay1]
  rw [dif_neg (by omega : ¬ 48 + r.val < 16), dif_neg (by omega : ¬ 48 + r.val - 16 < 16), dif_neg (by omega : ¬ 48 + r.val - 16 - 16 < 16), dif_pos (by omega : 48 + r.val - 16 - 16 - 16 < 16)]
  have h : (⟨48 + (48 + r.val - 16 - 16 - 16), by omega⟩ : Fin 64) = ⟨48 + r.val, by omega⟩ :=
    Fin.ext (by show 48 + (48 + r.val - 16 - 16 - 16) = 48 + r.val; omega)
  show soft (sel b c d i) 3 * a (ix2 i ⟨48 + (48 + r.val - 16 - 16 - 16), by omega⟩) = _
  rw [h]

/-- The gated projections that the kernel stores beside the features. -/
abbrev gatedPay (p : grid0.Coords) : FVec Ideal S1024x128 .bf16 :=
  k0_pay1 (k0_pay6 xb side sb) (k0_pay8 xb side sb) (k0_pay9 xb side sb) (k0_pay10 p)

/-- The logits selected for a row are the logits of the row's routing test. -/
theorem sel_eq (p : grid0.Coords) (i : Fin 1024) :
    sel (k0_pay8 xb side sb) (k0_pay9 xb side sb) (k0_pay10 p) i = tileLogits xb side sb (p 0) i :=
  funext fun q => select_eq xb side sb p i q

/-- The first group of gated projections, over the side product. -/
theorem gated1 (p : grid0.Coords) (i : Fin 1024) (r : Fin 16) :
    gatedPay xb side sb p (ix2 i ⟨r.val, by omega⟩)
      = soft (tileLogits xb side sb (p 0) i) 0 * sideAt xb side sb i ⟨r.val, by omega⟩ := by
  rw [gatedPay, pay1_1, sel_eq, pay6_eq]

/-- The second group of gated projections, over the side product. -/
theorem gated2 (p : grid0.Coords) (i : Fin 1024) (r : Fin 16) :
    gatedPay xb side sb p (ix2 i ⟨16 + r.val, by omega⟩)
      = soft (tileLogits xb side sb (p 0) i) 1 * sideAt xb side sb i ⟨16 + r.val, by omega⟩ := by
  rw [gatedPay, pay1_2, sel_eq, pay6_eq]

/-- The third group of gated projections, over the side product. -/
theorem gated3 (p : grid0.Coords) (i : Fin 1024) (r : Fin 16) :
    gatedPay xb side sb p (ix2 i ⟨32 + r.val, by omega⟩)
      = soft (tileLogits xb side sb (p 0) i) 2 * sideAt xb side sb i ⟨32 + r.val, by omega⟩ := by
  rw [gatedPay, pay1_3, sel_eq, pay6_eq]

/-- The fourth group of gated projections, over the side product. -/
theorem gated4 (p : grid0.Coords) (i : Fin 1024) (r : Fin 16) :
    gatedPay xb side sb p (ix2 i ⟨48 + r.val, by omega⟩)
      = soft (tileLogits xb side sb (p 0) i) 3 * sideAt xb side sb i ⟨48 + r.val, by omega⟩ := by
  rw [gatedPay, pay1_4, sel_eq, pay6_eq]

/-- The stored features are the features. -/
theorem pay4_eq (i : Fin 1024) (k : Fin 2048) : k0_pay4 (F := Ideal) xb (ix2 i k) = xb (ix2 i k) := by
  pointwise [k0_pay4, k0_pay3]

/-- The two stores that fill the widened left operand: the features first, the gated projections beside them. -/
abbrev widePieces (p : grid0.Coords) : List (View.Piece (Elt Ideal) S1024x2176 .bf16) :=
  [⟨Rect.unit ![0, 2048] ![1024, 128] inb_S1024x2176_S1024x128_0_2048, gatedPay xb side sb p⟩,
    ⟨Rect.unit ![0, 0] ![1024, 2048] inb_S1024x2176_S1024x2048_0_0, k0_pay4 (F := Ideal) xb⟩]

/-- The widened left operand, as the kernel reads it back from its scratch. -/
def wide (p : grid0.Coords) : FVec Ideal S1024x2176 .bf16 := View.canon (widePieces xb side sb p)

/-- The last 128 columns of the widened left operand are the gated projections. -/
theorem wide_hi (p : grid0.Coords) (i : Fin 1024) (j : Fin 128) :
    wide xb side sb p (ix2 i ⟨2048 + j.val, by omega⟩) = gatedPay xb side sb p (ix2 i j) := by
  have h : (ix2 i ⟨2048 + j.val, by omega⟩ : S1024x2176.Idx)
      = (Rect.unit ![0, 2048] ![1024, 128] inb_S1024x2176_S1024x128_0_2048).emb (ix2 i j) := by idx_ext
  rw [h]
  exact View.canon_cons_emb _ _ _ _

/-- Where the features are stored. -/
abbrev loRect : Rect S1024x2176 := Rect.unit ![0, 0] ![1024, 2048] inb_S1024x2176_S1024x2048_0_0

/-- Where the gated projections are stored. -/
abbrev hiRect : Rect S1024x2176 := Rect.unit ![0, 2048] ![1024, 128] inb_S1024x2176_S1024x128_0_2048

/-- A column below 2048 lies outside the second store. -/
theorem not_mem_hi (i : Fin 1024) (k : Fin 2048) : (ix2 i ⟨k.val, by omega⟩ : S1024x2176.Idx)
    ∉ (Rect.unit ![0, 2048] ![1024, 128] inb_S1024x2176_S1024x128_0_2048).set := by
  rw [Rect.mem_set_unit]
  intro h
  have h1 : 2048 ≤ k.val := (h 1).1
  omega

/-- A column below 2048 is a column of the first store. -/
theorem emb_lo (i : Fin 1024) (k : Fin 2048) : (ix2 i ⟨k.val, by omega⟩ : S1024x2176.Idx)
    = (Rect.unit ![0, 0] ![1024, 2048] inb_S1024x2176_S1024x2048_0_0).emb (ix2 i k) := by
  funext a
  apply Fin.ext
  rw [ValueKit.rect_emb_unit_val]
  fin_cases a
  · exact (Nat.zero_add i.val).symm
  · exact (Nat.zero_add k.val).symm

/-- Of two stores, an element under the earlier and not under the later reads the earlier. -/
theorem canon_second {S : Shape} {e : EltTy} (r1 r2 : Rect S) (w1 : r1.shape.Idx → Elt Ideal e)
    (w2 : r2.shape.Idx → Elt Ideal e) (y : S.Idx) (x : r2.shape.Idx) (hn : y ∉ r1.set) (hy : y = r2.emb x) :
    View.canon [(⟨r1, w1⟩ : View.Piece (Elt Ideal) S e), ⟨r2, w2⟩] y = w2 x := by
  rw [View.canon_cons_of_not_mem _ _ hn, hy]
  exact View.canon_cons_emb _ _ _ _

/-- The first 2048 columns of the widened left operand are the features. -/
theorem wide_lo (p : grid0.Coords) (i : Fin 1024) (k : Fin 2048) :
    wide xb side sb p (ix2 i ⟨k.val, by omega⟩) = xb (ix2 i k) := by
  have h := canon_second (S := S1024x2176) (e := .bf16) hiRect loRect (gatedPay xb side sb p)
    (k0_pay4 (F := Ideal) xb) (ix2 i ⟨k.val, by omega⟩) (ix2 i k) (not_mem_hi i k) (emb_lo i k)
  unfold wide widePieces
  rw [h]
  exact pay4_eq xb i k

/-- A load of the whole scratch reads all of it. -/
theorem ld_whole (X : FVec Ideal S1024x2176 .bf16) :
    View.ld (S := S1024x2176) (e' := .bf16) (Val := Elt Ideal) X
      (Rect.unit ![0, 0] ![1024, 2176] inb_S1024x2176_S1024x2176_0_0) = X := by
  refine View.ld_unit_zero (Val := Elt Ideal) (e := .bf16) (S := S1024x2176) ?_ _ X
  funext a
  fin_cases a <;> rfl

/-- The tile of the result. -/
theorem tile_eq (L : FVec Ideal S1024x2176 .bf16) (rhs : FVec Ideal S2048x2176 .bf16) (bias : FVec Ideal S1x2048 .f32)
    (i : Fin 1024) (o : Fin 2048) :
    k0_pay2 (F := Ideal) L rhs bias (ix2 i o) = (∑ k, L (ix2 i k) * rhs (ix2 o k) : EReal) + bias (ix2 0 o) := by
  pointwise [k0_pay2]

variable (m : (ℓ : Loc nD τ sig) → Buf (Elt Ideal) ℓ) (c : Dev nD)

/-- What the body leaves in the result's tile at one grid point, over the blocks it reads. -/
theorem after_tile (t : Fin cfg0.N) (i : Fin 1024) (o : Fin 2048) :
    ((dats m 0 c).after 5 t (ix2 i o) : EReal)
      = k0_pay2 (F := Ideal) (wide (iblk m c 0 t) (iblk m c 2 t) (iblk m c 4 t) (grid0.coords t)) (iblk m c 1 t)
          (iblk m c 3 t) (ix2 i o) := by
  rw [after0_5]
  unfold outsAt0
  frame_out
  rw [View.readCov_eq_canon']
  exact congrArg (fun L => k0_pay2 (F := Ideal) L (iblk m c 1 t) (iblk m c 3 t) (ix2 i o))
    (ld_whole (wide (iblk m c 0 t) (iblk m c 2 t) (iblk m c 4 t) (grid0.coords t)))

end Cert.Lora

end
-- ==== Proof.Host.lean ====
/- The arrays that the host code prepares for the kernel, read at an index: the rows of `x`, the right-hand side
   (the weight, the four up-projections doubled, zeros), the side matrix (the four down-projections and both routers,
   transposed), the bias and the side bias (zeros and both router biases). -/
module

public import proofs.«01_k».proof.Proof.Gen.KernelIdeal.Frame
public import proofs.«01_k».proof.Proof.Spec
public import Idealize.ShloMosaic.Lib.StableHlo.ReadAt

@[expose] public section

set_option maxRecDepth 16384

noncomputable section

namespace Cert.Lora

open Idealize.ShloMosaic Idealize.ShloMosaic.TcCoe Idealize.SL.Sem Cert.KernelIdeal Cert.KernelIdeal.Gen

variable (m : (ℓ : Loc nD τ sig) → Buf (Elt Ideal) ℓ) (c : Dev nD)

/-- The activations `x`, as the memory holds it. -/
abbrev inX : (⟨3, ![4, 2048, 2048]⟩ : Shape).Idx → EReal := m (c, main_arg0)

/-- The weight `W`, as the memory holds it. -/
abbrev inW : Mat 2048 2048 := m (c, main_arg1)

/-- The bias `b`, as the memory holds it. -/
abbrev inBias : Vc 2048 := m (c, main_arg2)

/-- The image router's matrix `Wri`, as the memory holds it. -/
abbrev inWri : Mat 4 2048 := m (c, main_arg3)

/-- The image router's bias `bri`, as the memory holds it. -/
abbrev inBri : Vc 4 := m (c, main_arg4)

/-- The text router's matrix `Wrt`, as the memory holds it. -/
abbrev inWrt : Mat 4 2048 := m (c, main_arg5)

/-- The text router's bias `brt`, as the memory holds it. -/
abbrev inBrt : Vc 4 := m (c, main_arg6)

/-- The down-projection `A1`, as the memory holds it. -/
abbrev inA1 : Mat 16 2048 := m (c, main_arg7)

/-- The up-projection `B1`, as the memory holds it. -/
abbrev inB1 : Mat 2048 16 := m (c, main_arg8)

/-- The down-projection `A2`, as the memory holds it. -/
abbrev inA2 : Mat 16 2048 := m (c, main_arg9)

/-- The up-projection `B2`, as the memory holds it. -/
abbrev inB2 : Mat 2048 16 := m (c, main_arg10)

/-- The down-projection `A3`, as the memory holds it. -/
abbrev inA3 : Mat 16 2048 := m (c, main_arg11)

/-- The up-projection `B3`, as the memory holds it. -/
abbrev inB3 : Mat 2048 16 := m (c, main_arg12)

/-- The down-projection `A4`, as the memory holds it. -/
abbrev inA4 : Mat 16 2048 := m (c, main_arg13)

/-- The up-projection `B4`, as the memory holds it. -/
abbrev inB4 : Mat 2048 16 := m (c, main_arg14)

/-- The kernel's rows are the rows of `x`, batch after batch. -/
theorem host_x (i : Fin 8192) (k : Fin 2048) :
    (V m c main_v0 : FVec Ideal S8192x2048 .f32) (ix2 i k)
      = inX m c
          (ix3 ⟨i.val / 2048, by omega⟩ ⟨i.val % 2048, by omega⟩ k) := by
  unfold V V0
  after_reads_at

/-- The kernel's bias is `b`. -/
theorem host_b (k : Fin 2048) :
    (V m c main_v12 : FVec Ideal S1x2048 .f32) (ix2 0 k) = inBias m c (ix1 k) := by
  unfold V V0
  after_reads_at

/-- The right-hand side, by columns. -/
theorem host_rhs (i : Fin 2048) (k : Fin 2176) :
    (V m c main_v7 : FVec Ideal S2048x2176 .bf16) (ix2 i k)
      = if h : k.val < 2048 then inW m c (ix2 i ⟨k.val, h⟩)
        else if h : k.val - 2048 < 64 then
          (if h1 : k.val - 2048 < 16 then inB1 m c (ix2 i ⟨k.val - 2048, h1⟩)
            else if h2 : k.val - 2048 - 16 < 16 then
              inB2 m c (ix2 i ⟨k.val - 2048 - 16, h2⟩)
            else if h3 : k.val - 2048 - 16 - 16 < 16 then
              inB3 m c (ix2 i ⟨k.val - 2048 - 16 - 16, h3⟩)
            else inB4 m c (ix2 i ⟨k.val - 2048 - 16 - 16 - 16, by omega⟩))
            * Ideal.ofBits .f32 0x40000000#32
        else (0 : EReal) := by
  unfold V V0
  after_reads_at
  after_reads_at
  after_reads_at

/-- The side matrix, by columns. -/
theorem host_side (i : Fin 2048) (k : Fin 128) :
    (V m c main_v11 : FVec Ideal S2048x128 .bf16) (ix2 i k)
      = if h : k.val < 72 then
          (if h1 : k.val < 16 then inA1 m c (ix2 ⟨k.val, h1⟩ i)
            else if h2 : k.val - 16 < 16 then inA2 m c (ix2 ⟨k.val - 16, h2⟩ i)
            else if h3 : k.val - 16 - 16 < 16 then
              inA3 m c (ix2 ⟨k.val - 16 - 16, h3⟩ i)
            else if h4 : k.val - 16 - 16 - 16 < 16 then
              inA4 m c (ix2 ⟨k.val - 16 - 16 - 16, h4⟩ i)
            else if h5 : k.val - 16 - 16 - 16 - 16 < 4 then
              inWri m c (ix2 ⟨k.val - 16 - 16 - 16 - 16, h5⟩ i)
            else inWrt m c (ix2 ⟨k.val - 16 - 16 - 16 - 16 - 4, by omega⟩ i))
        else (FloatOps.sitofp (F := Ideal) .f32 (0#32)) := by
  unfold V V0
  after_reads_at
  after_reads_at

/-- The side bias, by columns. -/
theorem host_sbias (k : Fin 128) :
    (V m c main_v15 : FVec Ideal S1x128 .f32) (ix2 0 k)
      = if h : 64 ≤ k.val ∧ k.val - 64 < 8 then
          (if h1 : k.val - 64 < 4 then inBri m c (ix1 ⟨k.val - 64, h1⟩)
            else inBrt m c (ix1 ⟨k.val - 64 - 4, by omega⟩))
        else (FloatOps.sitofp (F := Ideal) .f32 (0#32)) := by
  unfold V V0
  after_reads_at
  after_reads_at

/-- The first 2048 columns of the right-hand side are the weight. -/
theorem rhs_w (i k : Fin 2048) : (V m c main_v7 : FVec Ideal S2048x2176 .bf16) (ix2 i ⟨k.val, by omega⟩)
    = inW m c (ix2 i k) := by
  rw [host_rhs, dif_pos k.isLt]

/-- The first up-projection, doubled, in the right-hand side. -/
theorem rhs_b1 (i : Fin 2048) (r : Fin 16) :
    (V m c main_v7 : FVec Ideal S2048x2176 .bf16) (ix2 i ⟨2048 + r.val, by omega⟩)
      = inB1 m c (ix2 i r) * (((2 : ℝ) : EReal)) := by
  have hr := r.isLt
  rw [host_rhs, two_bits, dif_neg (by show ¬ 2048 + r.val < 2048; omega), dif_pos (by show 2048 + r.val - 2048 < 64; omega),
    dif_pos (by show 2048 + r.val - 2048 < 16; omega)]
  congr 3
  exact Fin.ext (by show 2048 + r.val - 2048 = r.val; omega)

/-- The second up-projection, doubled, in the right-hand side. -/
theorem rhs_b2 (i : Fin 2048) (r : Fin 16) :
    (V m c main_v7 : FVec Ideal S2048x2176 .bf16) (ix2 i ⟨2064 + r.val, by omega⟩)
      = inB2 m c (ix2 i r) * (((2 : ℝ) : EReal)) := by
  have hr := r.isLt
  rw [host_rhs, two_bits, dif_neg (by show ¬ 2064 + r.val < 2048; omega), dif_pos (by show 2064 + r.val - 2048 < 64; omega),
    dif_neg (by show ¬ 2064 + r.val - 2048 < 16; omega),
    dif_pos (by show 2064 + r.val - 2048 - 16 < 16; omega)]
  congr 3
  exact Fin.ext (by show 2064 + r.val - 2048 - 16 = r.val; omega)

/-- The third up-projection, doubled, in the right-hand side. -/
theorem rhs_b3 (i : Fin 2048) (r : Fin 16) :
    (V m c main_v7 : FVec Ideal S2048x2176 .bf16) (ix2 i ⟨2080 + r.val, by omega⟩)
      = inB3 m c (ix2 i r) * (((2 : ℝ) : EReal)) := by
  have hr := r.isLt
  rw [host_rhs, two_bits, dif_neg (by show ¬ 2080 + r.val < 2048; omega), dif_pos (by show 2080 + r.val - 2048 < 64; omega),
    dif_neg (by show ¬ 2080 + r.val - 2048 < 16; omega),
    dif_neg (by show ¬ 2080 + r.val - 2048 - 16 < 16; omega),
    dif_pos (by show 2080 + r.val - 2048 - 16 - 16 < 16; omega)]
  congr 3
  exact Fin.ext (by show 2080 + r.val - 2048 - 16 - 16 = r.val; omega)

/-- The fourth up-projection, doubled, in the right-hand side. -/
theorem rhs_b4 (i : Fin 2048) (r : Fin 16) :
    (V m c main_v7 : FVec Ideal S2048x2176 .bf16) (ix2 i ⟨2096 + r.val, by omega⟩)
      = inB4 m c (ix2 i r) * (((2 : ℝ) : EReal)) := by
  have hr := r.isLt
  rw [host_rhs, two_bits, dif_neg (by show ¬ 2096 + r.val < 2048; omega), dif_pos (by show 2096 + r.val - 2048 < 64; omega),
    dif_neg (by show ¬ 2096 + r.val - 2048 < 16; omega),
    dif_neg (by show ¬ 2096 + r.val - 2048 - 16 < 16; omega),
    dif_neg (by show ¬ 2096 + r.val - 2048 - 16 - 16 < 16; omega)]
  congr 3
  exact Fin.ext (by show 2096 + r.val - 2048 - 16 - 16 - 16 = r.val; omega)

/-- The last 64 columns of the right-hand side are zero. -/
theorem rhs_z (i : Fin 2048) (r : Fin 64) :
    (V m c main_v7 : FVec Ideal S2048x2176 .bf16) (ix2 i ⟨2112 + r.val, by omega⟩) = (0 : EReal) := by
  rw [host_rhs, dif_neg (by show ¬ 2112 + r.val < 2048; omega), dif_neg (by show ¬ 2112 + r.val - 2048 < 64; omega)]

/-- The first down-projection in the side matrix. -/
theorem side_a1 (k : Fin 2048) (r : Fin 16) :
    (V m c main_v11 : FVec Ideal S2048x128 .bf16) (ix2 k ⟨r.val, by omega⟩)
      = inA1 m c (ix2 r k) := by
  have hr := r.isLt
  rw [host_side, dif_pos (by show r.val < 72; omega),
    dif_pos (by show r.val < 16; omega)]

/-- The second down-projection in the side matrix. -/
theorem side_a2 (k : Fin 2048) (r : Fin 16) :
    (V m c main_v11 : FVec Ideal S2048x128 .bf16) (ix2 k ⟨16 + r.val, by omega⟩)
      = inA2 m c (ix2 r k) := by
  have hr := r.isLt
  rw [host_side, dif_pos (by show 16 + r.val < 72; omega),
    dif_neg (by show ¬ 16 + r.val < 16; omega),
    dif_pos (by show 16 + r.val - 16 < 16; omega)]
  congr 2
  exact Fin.ext (by show 16 + r.val - 16 = r.val; omega)

/-- The third down-projection in the side matrix. -/
theorem side_a3 (k : Fin 2048) (r : Fin 16) :
    (V m c main_v11 : FVec Ideal S2048x128 .bf16) (ix2 k ⟨32 + r.val, by omega⟩)
      = inA3 m c (ix2 r k) := by
  have hr := r.isLt
  rw [host_side, dif_pos (by show 32 + r.val < 72; omega),
    dif_neg (by show ¬ 32 + r.val < 16; omega),
    dif_neg (by show ¬ 32 + r.val - 16 < 16; omega),
    dif_pos (by show 32 + r.val - 16 - 16 < 16; omega)]
  congr 2
  exact Fin.ext (by show 32 + r.val - 16 - 16 = r.val; omega)

/-- The fourth down-projection in the side matrix. -/
theorem side_a4 (k : Fin 2048) (r : Fin 16) :
    (V m c main_v11 : FVec Ideal S2048x128 .bf16) (ix2 k ⟨48 + r.val, by omega⟩)
      = inA4 m c (ix2 r k) := by
  have hr := r.isLt
  rw [host_side, dif_pos (by show 48 + r.val < 72; omega),
    dif_neg (by show ¬ 48 + r.val < 16; omega),
    dif_neg (by show ¬ 48 + r.val - 16 < 16; omega),
    dif_neg (by show ¬ 48 + r.val - 16 - 16 < 16; omega),
    dif_pos (by show 48 + r.val - 16 - 16 - 16 < 16; omega)]
  congr 2
  exact Fin.ext (by show 48 + r.val - 16 - 16 - 16 = r.val; omega)

/-- The image router in the side matrix. -/
theorem side_ri (k : Fin 2048) (r : Fin 4) :
    (V m c main_v11 : FVec Ideal S2048x128 .bf16) (ix2 k ⟨64 + r.val, by omega⟩)
      = inWri m c (ix2 r k) := by
  have hr := r.isLt
  rw [host_side, dif_pos (by show 64 + r.val < 72; omega),
    dif_neg (by show ¬ 64 + r.val < 16; omega),
    dif_neg (by show ¬ 64 + r.val - 16 < 16; omega),
    dif_neg (by show ¬ 64 + r.val - 16 - 16 < 16; omega),
    dif_neg (by show ¬ 64 + r.val - 16 - 16 - 16 < 16; omega),
    dif_pos (by show 64 + r.val - 16 - 16 - 16 - 16 < 4; omega)]
  congr 2
  exact Fin.ext (by show 64 + r.val - 16 - 16 - 16 - 16 = r.val; omega)

/-- The text router in the side matrix. -/
theorem side_rt (k : Fin 2048) (r : Fin 4) :
    (V m c main_v11 : FVec Ideal S2048x128 .bf16) (ix2 k ⟨68 + r.val, by omega⟩)
      = inWrt m c (ix2 r k) := by
  have hr := r.isLt
  rw [host_side, dif_pos (by show 68 + r.val < 72; omega),
    dif_neg (by show ¬ 68 + r.val < 16; omega),
    dif_neg (by show ¬ 68 + r.val - 16 < 16; omega),
    dif_neg (by show ¬ 68 + r.val - 16 - 16 < 16; omega),
    dif_neg (by show ¬ 68 + r.val - 16 - 16 - 16 < 16; omega),
    dif_neg (by show ¬ 68 + r.val - 16 - 16 - 16 - 16 < 4; omega)]
  congr 2
  exact Fin.ext (by show 68 + r.val - 16 - 16 - 16 - 16 - 4 = r.val; omega)

/-- The side bias is zero in the columns of the down-projections. -/
theorem sbias_a (r : Fin 64) :
    (V m c main_v15 : FVec Ideal S1x128 .f32) (ix2 0 ⟨r.val, by omega⟩) = (0 : EReal) := by
  rw [host_sbias, dif_neg (by show ¬ (64 ≤ r.val ∧ r.val - 64 < 8); omega)]
  show ((((0#32 : BitVec 32).toInt : ℝ)) : EReal) = 0
  simp

/-- The image router's bias in the side bias. -/
theorem sbias_ri (r : Fin 4) :
    (V m c main_v15 : FVec Ideal S1x128 .f32) (ix2 0 ⟨64 + r.val, by omega⟩)
      = inBri m c (ix1 r) := by
  rw [host_sbias, dif_pos (by show 64 ≤ 64 + r.val ∧ 64 + r.val - 64 < 8; omega),
    dif_pos (by show 64 + r.val - 64 < 4; omega)]
  congr 2
  exact Fin.ext (by show 64 + r.val - 64 = r.val; omega)

/-- The text router's bias in the side bias. -/
theorem sbias_rt (r : Fin 4) :
    (V m c main_v15 : FVec Ideal S1x128 .f32) (ix2 0 ⟨68 + r.val, by omega⟩)
      = inBrt m c (ix1 r) := by
  rw [host_sbias, dif_pos (by show 64 ≤ 68 + r.val ∧ 68 + r.val - 64 < 8; omega),
    dif_neg (by show ¬ 68 + r.val - 64 < 4; omega)]
  congr 2
  exact Fin.ext (by show 68 + r.val - 64 - 4 = r.val; omega)

end Cert.Lora

end
-- ==== Proof.Value.lean ====
/- The kernel's result, read at an element: where the routers' inputs are real numbers, each row is `rowSpec` of that
   row of `x`. -/
module

public import proofs.«01_k».proof.Proof.Block
public import proofs.«01_k».proof.Proof.Host
public import Idealize.ShloMosaic.Lib.Claim

@[expose] public section

set_option maxRecDepth 16384

noncomputable section

namespace Cert.Lora

open Idealize.ShloMosaic Idealize.ShloMosaic.TcCoe Idealize.SL.Sem Cert.KernelIdeal Cert.KernelIdeal.Gen

variable (m : (ℓ : Loc nD τ sig) → Buf (Elt Ideal) ℓ) (c : Dev nD)

/-- Which block each window stands on at a grid point: the rows' window and the result's at the point's own block, the
    others at their only block. -/
theorem idx : ∀ t, win0_0.index t = ![(grid0.coords t 0).val, 0] ∧ win0_1.index t = ![0, 0]
    ∧ win0_2.index t = ![0, 0] ∧ win0_3.index t = ![0, 0] ∧ win0_4.index t = ![0, 0]
    ∧ win0_5.index t = ![(grid0.coords t 0).val, 0] ∧ (grid0.coords t 0).val = t.val := by decide +kernel

/-- The rows' block at a grid point. -/
theorem blk_x (t : Fin cfg0.N) (i : Fin 1024) (k : Fin 2048) (n : Fin 8192) (hn : n.val = t.val * 1024 + i.val) :
    (iblk m c 0 t : FVec Ideal S1024x2048 .f32) (ix2 i k) = (V m c main_v0 : FVec Ideal S8192x2048 .f32) (ix2 n k) := by
  blk_ext [iblk, idx t]

/-- The right-hand side's block is all of it. -/
theorem blk_rhs (t : Fin cfg0.N) :
    (iblk m c 1 t : FVec Ideal S2048x2176 .bf16) = (V m c main_v7 : FVec Ideal S2048x2176 .bf16) := by
  funext y
  blk_ext [iblk, idx t]

/-- The side matrix's block is all of it. -/
theorem blk_side (t : Fin cfg0.N) :
    (iblk m c 2 t : FVec Ideal S2048x128 .bf16) = (V m c main_v11 : FVec Ideal S2048x128 .bf16) := by
  funext y
  blk_ext [iblk, idx t]

/-- The bias's block is all of it. -/
theorem blk_bias (t : Fin cfg0.N) :
    (iblk m c 3 t : FVec Ideal S1x2048 .f32) = (V m c main_v12 : FVec Ideal S1x2048 .f32) := by
  funext y
  blk_ext [iblk, idx t]

/-- The side bias's block is all of it. -/
theorem blk_sbias (t : Fin cfg0.N) :
    (iblk m c 4 t : FVec Ideal S1x128 .f32) = (V m c main_v15 : FVec Ideal S1x128 .f32) := by
  funext y
  blk_ext [iblk, idx t]

/-- Element `(b, s, o)` of the result that both programs compute. -/
def specAt (b : Fin 4) (s o : Fin 2048) : EReal :=
  rowSpec (logits (s.val < 32) (fun k => inX m c (ix3 b s k)) (inWri m c) (inBri m c) (inWrt m c) (inBrt m c))
    (fun k => inX m c (ix3 b s k)) (inW m c) (inBias m c) (inA1 m c) (inB1 m c) (inA2 m c) (inB2 m c) (inA3 m c)
    (inB3 m c) (inA4 m c) (inB4 m c) o

/-- The precondition, element by element: what the routers read is real. -/
structure RealInputs : Prop where
  x : ∀ i, IsReal (inX m c i)
  wri : ∀ i, IsReal (inWri m c i)
  bri : ∀ i, IsReal (inBri m c i)
  wrt : ∀ i, IsReal (inWrt m c i)
  brt : ∀ i, IsReal (inBrt m c i)

/-- A column of the side product: the row's product with the matrix's row `r`, plus the column's bias. -/
theorem sideAt_eq {n : ℕ} (xb : FVec Ideal S1024x2048 .f32) (side : FVec Ideal S2048x128 .bf16)
    (sb : FVec Ideal S1x128 .f32) (xr : Fin 2048 → EReal) (i : Fin 1024) (hx : ∀ k, xb (ix2 i k) = xr k) (j : Fin 128)
    (A : Mat n 2048) (r : Fin n) (hside : ∀ k, side (ix2 k j) = A (ix2 r k)) (β : EReal) (hb : sb (ix2 0 j) = β) :
    sideAt xb side sb i j = dotRow xr A r + β := by
  unfold sideAt dotRow
  rw [hb]
  congr 1
  exact Finset.sum_congr rfl fun k _ => by rw [hx, hside]

variable (xb : FVec Ideal S1024x2048 .f32) (xr : Fin 2048 → EReal) (i : Fin 1024) (hx : ∀ k, xb (ix2 i k) = xr k)

include hx

/-- Projection 1 of the side product is the row's product with `A1`. -/
theorem proj1 (r : Fin 16) :
    sideAt xb (V m c main_v11) (V m c main_v15) i ⟨r.val, by omega⟩ = dotRow xr (inA1 m c) r := by
  refine (sideAt_eq xb _ _ xr i hx ⟨r.val, by omega⟩ (inA1 m c) r (fun k => side_a1 m c k r) 0
    (sbias_a m c ⟨r.val, by omega⟩)).trans ?_
  rw [add_zero]

/-- Projection 2 of the side product is the row's product with `A2`. -/
theorem proj2 (r : Fin 16) :
    sideAt xb (V m c main_v11) (V m c main_v15) i ⟨16 + r.val, by omega⟩ = dotRow xr (inA2 m c) r := by
  refine (sideAt_eq xb _ _ xr i hx ⟨16 + r.val, by omega⟩ (inA2 m c) r (fun k => side_a2 m c k r) 0
    (sbias_a m c ⟨16 + r.val, by omega⟩)).trans ?_
  rw [add_zero]

/-- Projection 3 of the side product is the row's product with `A3`. -/
theorem proj3 (r : Fin 16) :
    sideAt xb (V m c main_v11) (V m c main_v15) i ⟨32 + r.val, by omega⟩ = dotRow xr (inA3 m c) r := by
  refine (sideAt_eq xb _ _ xr i hx ⟨32 + r.val, by omega⟩ (inA3 m c) r (fun k => side_a3 m c k r) 0
    (sbias_a m c ⟨32 + r.val, by omega⟩)).trans ?_
  rw [add_zero]

/-- Projection 4 of the side product is the row's product with `A4`. -/
theorem proj4 (r : Fin 16) :
    sideAt xb (V m c main_v11) (V m c main_v15) i ⟨48 + r.val, by omega⟩ = dotRow xr (inA4 m c) r := by
  refine (sideAt_eq xb _ _ xr i hx ⟨48 + r.val, by omega⟩ (inA4 m c) r (fun k => side_a4 m c k r) 0
    (sbias_a m c ⟨48 + r.val, by omega⟩)).trans ?_
  rw [add_zero]

/-- The logits that the kernel selects for a row are the row's logits. -/
theorem tileLogits_eq (t : Fin 8) :
    tileLogits xb (V m c main_v11) (V m c main_v15) t i
      = logits ((t.val * 1024 + i.val) % 2048 < 32) xr (inWri m c) (inBri m c) (inWrt m c) (inBrt m c) := by
  funext q
  unfold tileLogits logits
  congr 1
  · exact sideAt_eq xb _ _ xr i hx ⟨64 + q.val, by omega⟩ (inWri m c) q (fun k => side_ri m c k q) _ (sbias_ri m c q)
  · exact sideAt_eq xb _ _ xr i hx ⟨68 + q.val, by omega⟩ (inWrt m c) q (fun k => side_rt m c k q) _ (sbias_rt m c q)

omit hx

/-- One element of the tile that the body leaves at a grid point. -/
theorem tile_spec (h : RealInputs m c) (t : Fin cfg0.N) (i : Fin 1024) (o : Fin 2048) (b : Fin 4) (s : Fin 2048)
    (hn : t.val * 1024 + i.val = b.val * 2048 + s.val) :
    ((dats m 0 c).after 5 t (ix2 i o) : EReal) = specAt m c b s o := by
  have ht : t.val < 8 := t.isLt
  have hp : (grid0.coords t 0).val = t.val := (idx t).2.2.2.2.2.2
  have hx : ∀ k, (iblk m c 0 t : FVec Ideal S1024x2048 .f32) (ix2 i k) = inX m c (ix3 b s k) := fun k => by
    refine (blk_x m c t i k ⟨t.val * 1024 + i.val, by omega⟩ rfl).trans ((host_x m c _ k).trans ?_)
    congr 2
    · exact Fin.ext (by show (t.val * 1024 + i.val) / 2048 = b.val; omega)
    · exact Fin.ext (by show (t.val * 1024 + i.val) % 2048 = s.val; omega)
  have hl : tileLogits (iblk m c 0 t) (V m c main_v11) (V m c main_v15) (grid0.coords t 0) i
      = logits (s.val < 32) (fun k => inX m c (ix3 b s k)) (inWri m c) (inBri m c) (inWrt m c) (inBrt m c) := by
    rw [tileLogits_eq m c _ _ i hx (grid0.coords t 0)]
    have hs : ((grid0.coords t 0).val * 1024 + i.val) % 2048 = s.val := by rw [hp]; omega
    funext q
    unfold logits
    simp only [hs]
  have hg := fun q => isReal_logits (s.val < 32) (fun k => inX m c (ix3 b s k)) (inWri m c) (inBri m c) (inWrt m c)
    (inBrt m c) (fun k => h.x _) h.wri h.bri h.wrt h.brt q
  rw [after_tile, blk_rhs, blk_side, blk_bias, blk_sbias, tile_eq]
  refine (congrArg (fun β : EReal => _ + β) (host_b m c o)).trans ?_
  refine row_eq (fun k => wide (iblk m c 0 t) (V m c main_v11) (V m c main_v15) (grid0.coords t) (ix2 i k))
    (fun k => (V m c main_v7 : FVec Ideal S2048x2176 .bf16) (ix2 o k)) _ hg (fun k => inX m c (ix3 b s k)) (inW m c)
    (inBias m c) (inA1 m c) (inB1 m c) (inA2 m c) (inB2 m c) (inA3 m c) (inB3 m c) (inA4 m c) (inB4 m c) o
    (fun k => (wide_lo _ _ _ _ i k).trans (hx k)) (fun r => ?_) (fun r => ?_) (fun r => ?_) (fun r => ?_)
    (rhs_w m c o) (rhs_b1 m c o) (rhs_b2 m c o) (rhs_b3 m c o) (rhs_b4 m c o) (rhs_z m c o)
  · refine (wide_hi _ _ _ _ i ⟨r.val, by omega⟩).trans ?_
    refine (gated1 _ _ _ _ i r).trans ?_
    rw [hl, proj1 m c _ _ i hx r]
  · have hj : (⟨2064 + r.val, by omega⟩ : Fin 2176) = ⟨2048 + (16 + r.val), by omega⟩ :=
      Fin.ext (by show 2064 + r.val = 2048 + (16 + r.val); omega)
    refine (congrArg (fun j => wide (iblk m c 0 t) (V m c main_v11) (V m c main_v15) (grid0.coords t) (ix2 i j)) hj).trans ?_
    refine (wide_hi _ _ _ _ i ⟨16 + r.val, by omega⟩).trans ?_
    refine (gated2 _ _ _ _ i r).trans ?_
    rw [hl, proj2 m c _ _ i hx r]
  · have hj : (⟨2080 + r.val, by omega⟩ : Fin 2176) = ⟨2048 + (32 + r.val), by omega⟩ :=
      Fin.ext (by show 2080 + r.val = 2048 + (32 + r.val); omega)
    refine (congrArg (fun j => wide (iblk m c 0 t) (V m c main_v11) (V m c main_v15) (grid0.coords t) (ix2 i j)) hj).trans ?_
    refine (wide_hi _ _ _ _ i ⟨32 + r.val, by omega⟩).trans ?_
    refine (gated3 _ _ _ _ i r).trans ?_
    rw [hl, proj3 m c _ _ i hx r]
  · have hj : (⟨2096 + r.val, by omega⟩ : Fin 2176) = ⟨2048 + (48 + r.val), by omega⟩ :=
      Fin.ext (by show 2096 + r.val = 2048 + (48 + r.val); omega)
    refine (congrArg (fun j => wide (iblk m c 0 t) (V m c main_v11) (V m c main_v15) (grid0.coords t) (ix2 i j)) hj).trans ?_
    refine (wide_hi _ _ _ _ i ⟨48 + r.val, by omega⟩).trans ?_
    refine (gated4 _ _ _ _ i r).trans ?_
    rw [hl, proj4 m c _ _ i hx r]

/-- Row `n` of the result's array: row `n % 2048` of batch `n / 2048`. -/
def specRow (n : Fin 8192) (o : Fin 2048) : EReal :=
  specAt m c ⟨n.val / 2048, by omega⟩ ⟨n.val % 2048, by omega⟩ o

/-- The result's array, row by row. -/
def outRows : FVec Ideal S8192x2048 .f32 := fun j => specRow m c (j 0) (j 1)

/-- Where an element of a tile lies in the result's array: at the tile's own rows. -/
theorem place (t : Fin cfg0.N) (i : Fin 1024) (o : Fin 2048) (n : Fin 8192) (hn : n.val = t.val * 1024 + i.val) :
    ((win0_5.blk t).view.emb (ix2 i o) : S8192x2048.Idx) = ix2 n o := by
  blk_ext [idx t]

/-- The result's array after the run, where the routers' inputs are real. -/
theorem out_rows (h : RealInputs m c) :
    (dats m 0 c).arrAt 5 (cfgs 0).N = outRows m c := by
  refine (dats m 0 c).arrAt_eq_of_covers 5 _ (by decide +kernel) fun t hf y => ?_
  blk_simp
  have ht : t.val < 8 := t.isLt
  have key : ∀ (i : Fin 1024) (o : Fin 2048),
      ((dats m 0 c).after 5 t (ix2 i o) : EReal) = outRows m c ((win0_5.blk t).view.emb (ix2 i o)) := fun i o => by
    have hi := i.isLt
    rw [place t i o ⟨t.val * 1024 + i.val, by omega⟩ rfl]
    refine tile_spec m c h t i o _ _ ?_
    show t.val * 1024 + i.val = (t.val * 1024 + i.val) / 2048 * 2048 + (t.val * 1024 + i.val) % 2048
    omega
  have all : ∀ z : S1024x2048.Idx,
      ((dats m 0 c).after 5 t z : EReal) = outRows m c ((win0_5.blk t).view.emb z) := fun z => by
    idx_vars z
    exact key _ _
  exact all y

/-- The result of the whole program, element by element. -/
def specArr : FVec Ideal S4x2048x2048 .f32 := fun j => specAt m c (j 0) (j 1) (j 2)

/-- The reshape that follows the kernel puts the rows back into batches. -/
theorem tail_value (h : RealInputs m c) :
    (Pipeline.afterTail₀ cfgs (dats m) 0 (V0 m) [hostOps1] c main_v17 : FVec Ideal S4x2048x2048 .f32) = specArr m c := by
  have hw := (Pipeline.withArrays_arr (cfgs 0).spec (by decide) c (V0 m c)
    (fun w => (dats m 0 c).arrAt w (cfgs 0).N) 5).trans (out_rows m c h)
  have key : ∀ (b : Fin 4) (s o : Fin 2048),
      (Pipeline.afterTail₀ cfgs (dats m) 0 (V0 m) [hostOps1] c main_v17 : FVec Ideal S4x2048x2048 .f32) (ix3 b s o)
        = specAt m c b s o := fun b s o => by
    unfold Pipeline.afterTail₀
    after_reads_at
    refine (congrFun hw _).trans ?_
    show specAt m c ⟨(b.val * 2048 + s.val) / 2048, _⟩ ⟨(b.val * 2048 + s.val) % 2048, _⟩ o = _
    congr 1
    · exact Fin.ext (by show (b.val * 2048 + s.val) / 2048 = b.val; omega)
    · exact Fin.ext (by show (b.val * 2048 + s.val) % 2048 = s.val; omega)
  funext j
  idx_vars j
  exact key _ _ _

end Cert.Lora

end
-- ==== Proof.Pre.lean ====
/- What the precondition says of the routers' inputs: at the exact instance, where floats are extended reals, "finite"
   is "a real number". -/
module

public import proofs.«01_k».proof.Defs
public import proofs.«01_k».proof.Proof.Value

@[expose] public section

set_option maxRecDepth 16384

noncomputable section

namespace Cert.Lora

open Idealize.ShloMosaic Idealize.ShloMosaic.TcCoe Idealize.SL.Sem

/-- The side conditions of the precondition's operations: each of its three broadcasts fits. -/
theorem preFacts : Cert.Pre_router_inputs_finite.Facts where
  bcast_S_S4x2048x2048 := by decide
  bcast_S_S4x2048 := by decide
  bcast_S_S4 := by decide

/-- The comparison of an absolute value with infinity, where it answers yes. -/
theorem isReal_of_cmp {x : EReal} (h : Ideal.cmp .olt (max x (-x)) (Ideal.ofBits .f32 0x7F800000#32) = 1#1) :
    IsReal x := by
  rw [inf_bits] at h
  by_contra hn
  have : ¬ max x (-x) < ⊤ := fun hl => hn (isReal_of_abs_lt hl)
  simp [Ideal.cmp, this] at h

/-- An array that the precondition finds finite everywhere holds real numbers only. -/
theorem isReal_of_finite {S : Shape} (hb : (⟨0, ![]⟩ : Shape).BroadcastsInDim S (![] : Fin 0 → Fin S.rank))
    (x : FVec Ideal S .f32)
    (h : cmpf .olt (Host.absf x) (broadcastInDim S ![] hb (constant (F := Ideal) ⟨0, ![]⟩ .f32 0x7F800000#32))
      = fun _ => 1#1) (i : S.Idx) : IsReal (x i) :=
  isReal_of_cmp (congrFun h i)

/-- The precondition says exactly that the routers' inputs are real. -/
theorem real_of_pre (m : (ℓ : Loc Cert.KernelIdeal.nD Cert.KernelIdeal.τ Cert.KernelIdeal.sig) → Buf (Elt Ideal) ℓ)
    (h : Cert.Pre_KernelIdeal_router_inputs_finite (hPre_router_inputs_finite := preFacts) m)
    (c : Dev Cert.KernelIdeal.nD) : RealInputs m c where
  x := isReal_of_finite preFacts.bcast_S_S4x2048x2048 _ (h c).1
  wri := isReal_of_finite preFacts.bcast_S_S4x2048 _ (h c).2.1
  bri := isReal_of_finite preFacts.bcast_S_S4 _ (h c).2.2.1
  wrt := isReal_of_finite preFacts.bcast_S_S4x2048 _ (h c).2.2.2.1
  brt := isReal_of_finite preFacts.bcast_S_S4 _ (h c).2.2.2.2

end Cert.Lora

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Ref
public import proofs.«01_k».proof.Proof.Value
public import proofs.«01_k».proof.Proof.Pre
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Lora

/-- Before the kernel, or after it, no operation writes an argument, and the kernel writes only its own result; so the
    whole program ends with `specArr` in its result and with its arguments as they were. -/
theorem kernel_run (m : (ℓ : Loc Cert.KernelIdeal.nD Cert.KernelIdeal.τ Cert.KernelIdeal.sig) → Buf (Elt Ideal) ℓ)
    (g : Dev Cert.KernelIdeal.nD → PrngReg) (h : ∀ c, RealInputs m c) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem (c.tc.loc Cert.KernelIdeal.main_v17) = specArr m c
        ∧ r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1)
        ∧ r.2.mem (c.tc.loc Cert.KernelIdeal.main_arg2) = m (c.tc.loc Cert.KernelIdeal.main_arg2)
        ∧ r.2.mem (c.tc.loc Cert.KernelIdeal.main_arg3) = m (c.tc.loc Cert.KernelIdeal.main_arg3)
        ∧ r.2.mem (c.tc.loc Cert.KernelIdeal.main_arg4) = m (c.tc.loc Cert.KernelIdeal.main_arg4)
        ∧ r.2.mem (c.tc.loc Cert.KernelIdeal.main_arg5) = m (c.tc.loc Cert.KernelIdeal.main_arg5)
        ∧ r.2.mem (c.tc.loc Cert.KernelIdeal.main_arg6) = m (c.tc.loc Cert.KernelIdeal.main_arg6)
        ∧ r.2.mem (c.tc.loc Cert.KernelIdeal.main_arg7) = m (c.tc.loc Cert.KernelIdeal.main_arg7)
        ∧ r.2.mem (c.tc.loc Cert.KernelIdeal.main_arg8) = m (c.tc.loc Cert.KernelIdeal.main_arg8)
        ∧ r.2.mem (c.tc.loc Cert.KernelIdeal.main_arg9) = m (c.tc.loc Cert.KernelIdeal.main_arg9)
        ∧ r.2.mem (c.tc.loc Cert.KernelIdeal.main_arg10) = m (c.tc.loc Cert.KernelIdeal.main_arg10)
        ∧ r.2.mem (c.tc.loc Cert.KernelIdeal.main_arg11) = m (c.tc.loc Cert.KernelIdeal.main_arg11)
        ∧ r.2.mem (c.tc.loc Cert.KernelIdeal.main_arg12) = m (c.tc.loc Cert.KernelIdeal.main_arg12)
        ∧ r.2.mem (c.tc.loc Cert.KernelIdeal.main_arg13) = m (c.tc.loc Cert.KernelIdeal.main_arg13)
        ∧ r.2.mem (c.tc.loc Cert.KernelIdeal.main_arg14) = m (c.tc.loc Cert.KernelIdeal.main_arg14)) := by
  run_from Cert.KernelIdeal.Gen.run_main m g
  · exact tail_value m c (h c)
  · exact Cert.KernelIdeal.Gen.W_main_arg0 m (Cert.KernelIdeal.Gen.dats m) c
  · exact Cert.KernelIdeal.Gen.W_main_arg1 m (Cert.KernelIdeal.Gen.dats m) c
  · exact Cert.KernelIdeal.Gen.W_main_arg2 m (Cert.KernelIdeal.Gen.dats m) c
  · exact Cert.KernelIdeal.Gen.W_main_arg3 m (Cert.KernelIdeal.Gen.dats m) c
  · exact Cert.KernelIdeal.Gen.W_main_arg4 m (Cert.KernelIdeal.Gen.dats m) c
  · exact Cert.KernelIdeal.Gen.W_main_arg5 m (Cert.KernelIdeal.Gen.dats m) c
  · exact Cert.KernelIdeal.Gen.W_main_arg6 m (Cert.KernelIdeal.Gen.dats m) c
  · exact Cert.KernelIdeal.Gen.W_main_arg7 m (Cert.KernelIdeal.Gen.dats m) c
  · exact Cert.KernelIdeal.Gen.W_main_arg8 m (Cert.KernelIdeal.Gen.dats m) c
  · exact Cert.KernelIdeal.Gen.W_main_arg9 m (Cert.KernelIdeal.Gen.dats m) c
  · exact Cert.KernelIdeal.Gen.W_main_arg10 m (Cert.KernelIdeal.Gen.dats m) c
  · exact Cert.KernelIdeal.Gen.W_main_arg11 m (Cert.KernelIdeal.Gen.dats m) c
  · exact Cert.KernelIdeal.Gen.W_main_arg12 m (Cert.KernelIdeal.Gen.dats m) c
  · exact Cert.KernelIdeal.Gen.W_main_arg13 m (Cert.KernelIdeal.Gen.dats m) c
  · exact Cert.KernelIdeal.Gen.W_main_arg14 m (Cert.KernelIdeal.Gen.dats m) c

/-- The reference's result, where its arguments are the kernel's and the routers' inputs are real, is `specArr` of the
    kernel's arguments. -/
theorem reference_value
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h : RealInputs m c)
    (e0 : m' (c.tc.loc Cert.ReferenceIdeal.main_arg0) = m (c.tc.loc Cert.KernelIdeal.main_arg0))
    (e1 : m' (c.tc.loc Cert.ReferenceIdeal.main_arg1) = m (c.tc.loc Cert.KernelIdeal.main_arg1))
    (e2 : m' (c.tc.loc Cert.ReferenceIdeal.main_arg2) = m (c.tc.loc Cert.KernelIdeal.main_arg2))
    (e3 : m' (c.tc.loc Cert.ReferenceIdeal.main_arg3) = m (c.tc.loc Cert.KernelIdeal.main_arg3))
    (e4 : m' (c.tc.loc Cert.ReferenceIdeal.main_arg4) = m (c.tc.loc Cert.KernelIdeal.main_arg4))
    (e5 : m' (c.tc.loc Cert.ReferenceIdeal.main_arg5) = m (c.tc.loc Cert.KernelIdeal.main_arg5))
    (e6 : m' (c.tc.loc Cert.ReferenceIdeal.main_arg6) = m (c.tc.loc Cert.KernelIdeal.main_arg6))
    (e7 : m' (c.tc.loc Cert.ReferenceIdeal.main_arg7) = m (c.tc.loc Cert.KernelIdeal.main_arg7))
    (e8 : m' (c.tc.loc Cert.ReferenceIdeal.main_arg8) = m (c.tc.loc Cert.KernelIdeal.main_arg8))
    (e9 : m' (c.tc.loc Cert.ReferenceIdeal.main_arg9) = m (c.tc.loc Cert.KernelIdeal.main_arg9))
    (e10 : m' (c.tc.loc Cert.ReferenceIdeal.main_arg10) = m (c.tc.loc Cert.KernelIdeal.main_arg10))
    (e11 : m' (c.tc.loc Cert.ReferenceIdeal.main_arg11) = m (c.tc.loc Cert.KernelIdeal.main_arg11))
    (e12 : m' (c.tc.loc Cert.ReferenceIdeal.main_arg12) = m (c.tc.loc Cert.KernelIdeal.main_arg12))
    (e13 : m' (c.tc.loc Cert.ReferenceIdeal.main_arg13) = m (c.tc.loc Cert.KernelIdeal.main_arg13))
    (e14 : m' (c.tc.loc Cert.ReferenceIdeal.main_arg14) = m (c.tc.loc Cert.KernelIdeal.main_arg14)) :
    Cert.ReferenceIdeal.Value.res_main_v68 m' c = specArr m c := by
  rw [Cert.ReferenceIdeal.Read.val_main_v68_eq, e0, e1, e2, e3, e4, e5, e6, e7, e8, e9, e10, e11, e12, e13, e14]
  have key : ∀ (b : Fin 4) (s o : Fin 2048), _ = specAt m c b s o := fun b s o =>
    ref_row _ (inW m c) (inBias m c) _ _ _ _ (inA1 m c) (inB1 m c) (inA2 m c) (inB2 m c) (inA3 m c) (inB3 m c)
      (inA4 m c) (inB4 m c) h.x h.wri h.bri h.wrt h.brt b s o
  funext j
  idx_vars j
  exact key _ _ _

/-- The reference runs, and ends with its arguments as they were; it has no semaphores. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- Where the routers' inputs are finite, the kernel and the reference compute the same array. -/
theorem algebraic : Cert.algebraic_KernelIdeal_ReferenceIdeal_pre_router_inputs_finite
    (hPre_router_inputs_finite := preFacts) := by
  intro m g m' g' hpre hag
  have hr := real_of_pre m hpre
  refine ⟨fun c => specArr m c, kernel_run m g hr, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, e5, e6, e7, e8, e9, e10, e11, e12, e13, e14⟩ := hag c
  exact reference_value m m' c (hr c) e0 e1 e2 e3 e4 e5 e6 e7 e8 e9 e10 e11 e12 e13 e14

/-- Everything the certificate claims. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, frame_reference, fun m g _ => frame_reference m g trivial,
    trivial, algebraic⟩

end Cert.Proof

end
